-- ==== Defs.lean ====
def Pre_Kernel (m : (ℓ : Loc Cert.Kernel.nD Cert.Kernel.τ Cert.Kernel.sig) → Buf (Elt Bits) ℓ) : Prop :=
  True

def Pre_Kernel_experts [hPre_experts : Cert.Pre_experts.Facts] (m : (ℓ : Loc Cert.Kernel.nD Cert.Kernel.τ Cert.Kernel.sig) → Buf (Elt Bits) ℓ) : Prop :=
  ∀ c : Dev Cert.Kernel.nD,
    (Cert.Pre_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_experts [hPre_experts : Cert.Pre_experts.Facts] (m : (ℓ : Loc Cert.KernelIdeal.nD Cert.KernelIdeal.τ Cert.KernelIdeal.sig) → Buf (Elt Ideal) ℓ) : Prop :=
  ∀ c : Dev Cert.KernelIdeal.nD,
    (Cert.Pre_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts [hPre_experts : Cert.Pre_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_experts : Cert.Pre_experts.Facts] (m : (ℓ : Loc Cert.Reference.nD Cert.Reference.τ Cert.Reference.sig) → Buf (Elt Bits) ℓ) : Prop :=
  ∀ c : Dev Cert.Reference.nD,
    (Cert.Pre_experts.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_experts [hKernel : Cert.Kernel.Facts] [hPre_experts : Cert.Pre_experts.Facts] : Prop :=
  ∀ (m : (ℓ : Loc Cert.Kernel.nD Cert.Kernel.τ Cert.Kernel.sig) → Buf (Elt Bits) ℓ) (g : Dev Cert.Kernel.nD → PrngReg), Pre_Kernel_experts m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_experts [hKernelIdeal : Cert.KernelIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_experts [hReferenceIdeal : Cert.ReferenceIdeal.Facts] [hPre_experts : Cert.Pre_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_experts : Cert.Pre_experts.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal_pre_experts [hKernelIdeal : Cert.KernelIdeal.Facts] [hReferenceIdeal : Cert.ReferenceIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_experts [hKernel : Cert.Kernel.Facts] [hReference : Cert.Reference.Facts] [hPre_experts : Cert.Pre_experts.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_experts m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v7)) (v1 : (c : Dev Cert.Kernel.nD) → Buf (Elt Bits) ((c.tc : Thread Cert.Kernel.nD Cert.Kernel.τ).loc Cert.Kernel.main_v8)) (v2 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_v8) = v1 c
          ∧ r.2.mem ((c.tc : Thread Cert.Kernel.nD Cert.Kernel.τ).loc Cert.Kernel.main_v12) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v34) = v0 c
          ∧ r.2.mem ((c.tc : Thread Cert.Reference.nD Cert.Reference.τ).loc Cert.Reference.main_v69) = v1 c
          ∧ r.2.mem ((c.tc : Thread Cert.Reference.nD Cert.Reference.τ).loc Cert.Reference.main_v71) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_experts : Cert.Pre_experts.Facts),
    quiescent_Kernel (hKernel := hKernel)
    ∧ quiescent_Kernel_pre_experts (hKernel := hKernel) (hPre_experts := hPre_experts)
    ∧ quiescent_KernelIdeal (hKernelIdeal := hKernelIdeal)
    ∧ quiescent_KernelIdeal_pre_experts (hKernelIdeal := hKernelIdeal) (hPre_experts := hPre_experts)
    ∧ quiescent_ReferenceIdeal (hReferenceIdeal := hReferenceIdeal)
    ∧ quiescent_ReferenceIdeal_pre_experts (hReferenceIdeal := hReferenceIdeal) (hPre_experts := hPre_experts)
    ∧ quiescent_Reference (hReference := hReference) (hPre_experts := hPre_experts)
    ∧ preserves_Kernel_KernelIdeal
    ∧ algebraic_KernelIdeal_ReferenceIdeal_pre_experts (hKernelIdeal := hKernelIdeal) (hReferenceIdeal := hReferenceIdeal) (hPre_experts := hPre_experts)
    ∧ bitexact_Kernel_Reference_pre_experts (hKernel := hKernel) (hReference := hReference) (hPre_experts := hPre_experts)
-- ==== Pre_experts.lean ====
abbrev S4x2048x1024 : Shape := ⟨3, ![4, 2048, 1024]⟩
abbrev S4x2048x2 : Shape := ⟨3, ![4, 2048, 2]⟩
abbrev S_ : Shape := ⟨0, ![]⟩

class Facts : Prop where
  bcast_S_S4x2048x2 : S_.BroadcastsInDim S4x2048x2 (![] : Fin 0 → Fin S4x2048x2.rank)

variable [Facts]

def fn {F : FTy → Type} [FloatOps F] (main_arg0 : FVec F S4x2048x1024 .f32) (main_arg1 : FVec F S4x2048x2 .f32) (main_arg2 : IVec S4x2048x2 32) : IVec S4x2048x2 1 :=
  let main_c : IVec S_ 32 := constantI S_ 32 0#32
  let main_v0 : IVec S4x2048x2 32 := broadcastInDim S4x2048x2 ![] bcast_S_S4x2048x2 main_c
  let main_v1 : IVec S4x2048x2 1 := cmpi .sge main_arg2 main_v0
  let main_c_0 : IVec S_ 32 := constantI S_ 32 64#32
  let main_v2 : IVec S4x2048x2 32 := broadcastInDim S4x2048x2 ![] bcast_S_S4x2048x2 main_c_0
  let main_v3 : IVec S4x2048x2 1 := cmpi .slt main_arg2 main_v2
  let main_v4 : IVec S4x2048x2 1 := andi main_v1 main_v3
  main_v4
-- ==== Kernel.lean ====
abbrev S4x2048x1024 : Shape := ⟨3, ![4, 2048, 1024]⟩
abbrev S4x2048x2 : Shape := ⟨3, ![4, 2048, 2]⟩
abbrev S8192x1024 : Shape := ⟨2, ![8192, 1024]⟩
abbrev S_ : Shape := ⟨0, ![]⟩
abbrev S8x1024 : Shape := ⟨2, ![8, 1024]⟩
abbrev S8200x1024 : Shape := ⟨2, ![8200, 1024]⟩
abbrev S16384 : Shape := ⟨1, ![16384]⟩
abbrev S32800x2x128 : Shape := ⟨3, ![32800, 2, 128]⟩
abbrev S131072x2x128 : Shape := ⟨3, ![131072, 2, 128]⟩
abbrev S262144 : Shape := ⟨1, ![262144]⟩
abbrev S1024 : Shape := ⟨1, ![1024]⟩
abbrev S16400 : Shape := ⟨1, ![16400]⟩
abbrev S2048 : Shape := ⟨1, ![2048]⟩
abbrev S128x2x128 : Shape := ⟨3, ![128, 2, 128]⟩
abbrev S4096 : Shape := ⟨1, ![4096]⟩
abbrev S16 : Shape := ⟨1, ![16]⟩
abbrev S128 : Shape := ⟨1, ![128]⟩
abbrev S4x16x512x1024 : Shape := ⟨4, ![4, 16, 512, 1024]⟩
abbrev S4x16x512x8 : Shape := ⟨4, ![4, 16, 512, 8]⟩
abbrev S64x16 : Shape := ⟨2, ![64, 16]⟩
abbrev S64x1 : Shape := ⟨2, ![64, 1]⟩
abbrev S64 : Shape := ⟨1, ![64]⟩
abbrev S4x16 : Shape := ⟨2, ![4, 16]⟩

abbrev nBuf : Table → Nat
  | .hbm => 19
  | .local .scVector .vmem => 8
  | _ => 0

abbrev bufTy : (tb : Table) → Fin (nBuf tb) → BufTy
  | .hbm, ⟨0, _⟩ => ⟨S4x2048x1024, .f32⟩
  | .hbm, ⟨1, _⟩ => ⟨S4x2048x2, .f32⟩
  | .hbm, ⟨2, _⟩ => ⟨S4x2048x2, .i32⟩
  | .hbm, ⟨3, _⟩ => ⟨S8192x1024, .f32⟩
  | .hbm, ⟨4, _⟩ => ⟨S_, .f32⟩
  | .hbm, ⟨5, _⟩ => ⟨S8x1024, .f32⟩
  | .hbm, ⟨6, _⟩ => ⟨S8200x1024, .f32⟩
  | .hbm, ⟨7, _⟩ => ⟨S16384, .i32⟩
  | .hbm, ⟨8, _⟩ => ⟨S16384, .f32⟩
  | .hbm, ⟨9, _⟩ => ⟨S32800x2x128, .f32⟩
  | .hbm, ⟨10, _⟩ => ⟨S131072x2x128, .f32⟩
  | .hbm, ⟨11, _⟩ => ⟨S262144, .f32⟩
  | .hbm, ⟨12, _⟩ => ⟨S1024, .i32⟩
  | .hbm, ⟨13, _⟩ => ⟨S4x16x512x1024, .f32⟩
  | .hbm, ⟨14, _⟩ => ⟨S4x16x512x8, .f32⟩
  | .hbm, ⟨15, _⟩ => ⟨S64x16, .i32⟩
  | .hbm, ⟨16, _⟩ => ⟨S64x1, .i32⟩
  | .hbm, ⟨17, _⟩ => ⟨S64, .i32⟩
  | .hbm, ⟨18, _⟩ => ⟨S4x16, .i32⟩
  | .local .scVector .vmem, ⟨0, _⟩ => ⟨S16384, .i32⟩
  | .local .scVector .vmem, ⟨1, _⟩ => ⟨S16384, .f32⟩
  | .local .scVector .vmem, ⟨2, _⟩ => ⟨S16400, .i32⟩
  | .local .scVector .vmem, ⟨3, _⟩ => ⟨S2048, .i32⟩
  | .local .scVector .vmem, ⟨4, _⟩ => ⟨S128x2x128, .f32⟩
  | .local .scVector .vmem, ⟨5, _⟩ => ⟨S128x2x128, .f32⟩
  | .local .scVector .vmem, ⟨6, _⟩ => ⟨S4096, .f32⟩
  | .local .scVector .vmem, ⟨7, _⟩ => ⟨S16, .i32⟩
  | _, _ => ⟨S4x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v5_scv : Ref sig .scVector := ⟨.hbm, 9, rfl⟩
abbrev main_v3_scv : Ref sig .scVector := ⟨.hbm, 7, rfl⟩
abbrev main_v4_scv : Ref sig .scVector := ⟨.hbm, 8, rfl⟩
abbrev main_v6_0_scv : Ref sig .scVector := ⟨.hbm, 10, rfl⟩
abbrev main_v6_1_scv : Ref sig .scVector := ⟨.hbm, 11, rfl⟩
abbrev main_v6_2_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c36_i32 : BitVec 32 := 36#32
  let v5 : BitVec 32 := Scalar.addi c0_i32_2 c36_i32
  let c1_i32 : BitVec 32 := 1#32
  ⟨c0_i32_2, v5, c1_i32⟩
def k0_off1 (k0_t1 : Fin k0_t1_loop.trips) : Fin 1 → Nat :=
  let c0_i32_2 : BitVec 32 := 0#32
  let c1_i32 : BitVec 32 := 1#32
  let arg19 : BitVec 32 := Scf.iv c0_i32_2 c1_i32 k0_t1
  let c16_i32_650 : BitVec 32 := 16#32
  let v406 : BitVec 32 := Scalar.muli arg19 c16_i32_650
  let v407 : Index := Scalar.indexCast v406
  ![v407.toNat]
@[reducible] def k0_t2_loop : Scf.Loop 32 :=
  let c0_i32_5 : BitVec 32 := 0#32
  let c1024_i32 : BitVec 32 := 1024#32
  let v8 : BitVec 32 := Scalar.addi c0_i32_5 c1024_i32
  let c1_i32_6 : BitVec 32 := 1#32
  ⟨c0_i32_5, v8, c1_i32_6⟩
def k0_off2 (k0_t2 : Fin k0_t2_loop.trips) : Fin 1 → Nat :=
  let c0_i32_5 : BitVec 32 := 0#32
  let c1_i32_6 : BitVec 32 := 1#32
  let arg19 : BitVec 32 := Scf.iv c0_i32_5 c1_i32_6 k0_t2
  let c16_i32_650 : BitVec 32 := 16#32
  let v405 : BitVec 32 := Scalar.muli arg19 c16_i32_650
  let v406 : Index := Scalar.indexCast v405
  ![v406.toNat]

def k0_chk1 (v419 : IVec S16 32) : Prop :=
  (∀ a x, ((![v419] : Fin 1 → IVec S16 32) a x).toNat < S16400.size a)
theorem k0_idx1_inb : ∀ (v419 : IVec S16 32) (k0_hw1 : k0_chk1 v419), ∀ a x, ((![v419] : Fin 1 → IVec S16 32) a x).toNat < S16400.size a := fun v419 k0_hw1 => k0_hw1
@[reducible] def k0_t3_loop : Scf.Loop 32 :=
  let c0_i32_9 : BitVec 32 := 0#32
  let c256_i32 : BitVec 32 := 256#32
  let v11 : BitVec 32 := Scalar.addi c0_i32_9 c256_i32
  let c1_i32_10 : BitVec 32 := 1#32
  ⟨c0_i32_9, v11, c1_i32_10⟩
def k0_off3 (k0_t3 : Fin k0_t3_loop.trips) : Fin 1 → Nat :=
  let c0_i32_9 : BitVec 32 := 0#32
  let c1_i32_10 : BitVec 32 := 1#32
  let arg19 : BitVec 32 := Scf.iv c0_i32_9 c1_i32_10 k0_t3
  let c16_i32_650 : BitVec 32 := 16#32
  let v406 : BitVec 32 := Scalar.muli arg19 c16_i32_650
  let v407 : Index := Scalar.indexCast v406
  ![v407.toNat]
@[reducible] def k0_t4_loop : Scf.Loop 32 :=
  let c0_i32_13 : BitVec 32 := 0#32
  let c32_i32 : BitVec 32 := 32#32
  let v16 : BitVec 32 := Scalar.addi c0_i32_13 c32_i32
  let c1_i32_14 : BitVec 32 := 1#32
  ⟨c0_i32_13, v16, c1_i32_14⟩
def k0_off4 (k0_t4 : Fin k0_t4_loop.trips) : Fin 1 → Nat :=
  let c0_i32_13 : BitVec 32 := 0#32
  let c1_i32_14 : BitVec 32 := 1#32
  let arg19 : BitVec 32 := Scf.iv c0_i32_13 c1_i32_14 k0_t4
  let c16_i32_651 : BitVec 32 := 16#32
  let v409 : BitVec 32 := Scalar.muli arg19 c16_i32_651
  let v410 : Index := Scalar.indexCast v409
  ![v410.toNat]

def k0_chk2 (v420 : IVec S16 32) : Prop :=
  (∀ a x, ((![v420] : Fin 1 → IVec S16 32) a x).toNat < S16384.size a)
theorem k0_idx2_inb : ∀ (v420 : IVec S16 32) (k0_hw2 : k0_chk2 v420), ∀ a x, ((![v420] : Fin 1 → IVec S16 32) a x).toNat < S16384.size a := fun v420 k0_hw2 => k0_hw2

def k0_chk3 (v424 : IVec S16 32) : Prop :=
  (∀ a x, ((![v424] : Fin 1 → IVec S16 32) a x).toNat < S4096.size a)
theorem k0_idx3_inb : ∀ (v424 : IVec S16 32) (k0_hw3 : k0_chk3 v424), ∀ a x, ((![v424] : Fin 1 → IVec S16 32) a x).toNat < S4096.size a := fun v424 k0_hw3 => k0_hw3

def k0_chk4 (v426 : IVec S16 32) : Prop :=
  (∀ a x, ((![v426] : Fin 1 → IVec S16 32) a x).toNat < S4096.size a)
theorem k0_idx4_inb : ∀ (v426 : IVec S16 32) (k0_hw4 : k0_chk4 v426), ∀ a x, ((![v426] : Fin 1 → IVec S16 32) a x).toNat < S4096.size a := fun v426 k0_hw4 => k0_hw4

def k0_chk5 (v429 : IVec S16 32) : Prop :=
  (∀ a x, ((![v429] : Fin 1 → IVec S16 32) a x).toNat < S4096.size a)
theorem k0_idx5_inb : ∀ (v429 : IVec S16 32) (k0_hw5 : k0_chk5 v429), ∀ a x, ((![v429] : Fin 1 → IVec S16 32) a x).toNat < S4096.size a := fun v429 k0_hw5 => k0_hw5

def k0_chk6 (v432 : IVec S16 32) : Prop :=
  (∀ a x, ((![v432] : Fin 1 → IVec S16 32) a x).toNat < S4096.size a)
theorem k0_idx6_inb : ∀ (v432 : IVec S16 32) (k0_hw6 : k0_chk6 v432), ∀ a x, ((![v432] : Fin 1 → IVec S16 32) a x).toNat < S4096.size a := fun v432 k0_hw6 => k0_hw6

def k0_chk7 (v434 : IVec S16 32) : Prop :=
  (∀ a x, ((![v434] : Fin 1 → IVec S16 32) a x).toNat < S4096.size a)
theorem k0_idx7_inb : ∀ (v434 : IVec S16 32) (k0_hw7 : k0_chk7 v434), ∀ a x, ((![v434] : Fin 1 → IVec S16 32) a x).toNat < S4096.size a := fun v434 k0_hw7 => k0_hw7

def k0_chk8 (v436 : IVec S16 32) : Prop :=
  (∀ a x, ((![v436] : Fin 1 → IVec S16 32) a x).toNat < S4096.size a)
theorem k0_idx8_inb : ∀ (v436 : IVec S16 32) (k0_hw8 : k0_chk8 v436), ∀ a x, ((![v436] : Fin 1 → IVec S16 32) a x).toNat < S4096.size a := fun v436 k0_hw8 => k0_hw8

def k0_chk9 (v438 : IVec S16 32) : Prop :=
  (∀ a x, ((![v438] : Fin 1 → IVec S16 32) a x).toNat < S4096.size a)
theorem k0_idx9_inb : ∀ (v438 : IVec S16 32) (k0_hw9 : k0_chk9 v438), ∀ a x, ((![v438] : Fin 1 → IVec S16 32) a x).toNat < S4096.size a := fun v438 k0_hw9 => k0_hw9

def k0_chk10 (v440 : IVec S16 32) : Prop :=
  (∀ a x, ((![v440] : Fin 1 → IVec S16 32) a x).toNat < S4096.size a)
theorem k0_idx10_inb : ∀ (v440 : IVec S16 32) (k0_hw10 : k0_chk10 v440), ∀ a x, ((![v440] : Fin 1 → IVec S16 32) a x).toNat < S4096.size a := fun v440 k0_hw10 => k0_hw10
def k0_off5 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c512_i32_16 : BitVec 32 := 512#32
  let v18 : BitVec 32 := Scalar.muli v4 c512_i32_16
  let c8_i32 : BitVec 32 := 8#32
  let v19 : BitVec 32 := Scalar.muli v18 c8_i32
  ![v19.toNat]
@[reducible] def k0_t5_loop : Scf.Loop 32 :=
  let c0_i32_19 : BitVec 32 := 0#32
  let c32_i32_20 : BitVec 32 := 32#32
  let v21 : BitVec 32 := Scalar.addi c0_i32_19 c32_i32_20
  let c1_i32_21 : BitVec 32 := 1#32
  ⟨c0_i32_19, v21, c1_i32_21⟩
def k0_off6 (k0_t5 : Fin k0_t5_loop.trips) : Fin 1 → Nat :=
  let c0_i32_19 : BitVec 32 := 0#32
  let c1_i32_21 : BitVec 32 := 1#32
  let arg19 : BitVec 32 := Scf.iv c0_i32_19 c1_i32_21 k0_t5
  let c16_i32_650 : BitVec 32 := 16#32
  let v405 : BitVec 32 := Scalar.muli arg19 c16_i32_650
  let v406 : Index := Scalar.indexCast v405
  ![v406.toNat]
@[reducible] def k0_t6_loop : Scf.Loop 32 :=
  let c0_i32_24 : BitVec 32 := 0#32
  let c128_i32 : BitVec 32 := 128#32
  let v23 : BitVec 32 := Scalar.addi c0_i32_24 c128_i32
  let c1_i32_25 : BitVec 32 := 1#32
  ⟨c0_i32_24, v23, c1_i32_25⟩

def k0_chk11 (v409 : IVec S16 32) : Prop :=
  (∀ a x, ((![v409] : Fin 1 → IVec S16 32) a x).toNat < S16400.size a)
theorem k0_idx11_inb : ∀ (v409 : IVec S16 32) (k0_hw11 : k0_chk11 v409), ∀ a x, ((![v409] : Fin 1 → IVec S16 32) a x).toNat < S16400.size a := fun v409 k0_hw11 => k0_hw11
def k0_off7 (k0_t6 : Fin k0_t6_loop.trips) : Fin 1 → Nat :=
  let c0_i32_24 : BitVec 32 := 0#32
  let c1_i32_25 : BitVec 32 := 1#32
  let arg19 : BitVec 32 := Scf.iv c0_i32_24 c1_i32_25 k0_t6
  let c16_i32_653 : BitVec 32 := 16#32
  let v416 : BitVec 32 := Scalar.muli arg19 c16_i32_653
  let v417 : Index := Scalar.indexCast v416
  ![v417.toNat]
def k0_off8 (i : grid0.Coords) (c0_i32 : BitVec 32) (c0_i32_40 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c512_i32_39 : BitVec 32 := 512#32
  let v31 : BitVec 32 := Scalar.muli v4 c512_i32_39
  let v32 : BitVec 32 := Scalar.addi v31 c0_i32_40
  let c4_i32 : BitVec 32 := 4#32
  let v33 : BitVec 32 := Scalar.muli v32 c4_i32
  let c0_i32_41 : BitVec 32 := 0#32
  let c0_i32_42 : BitVec 32 := 0#32
  ![v33.toNat, 0, 0]
def k0_off9 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c16_i32 : BitVec 32 := 16#32
  let v203 : BitVec 32 := Scalar.muli v4 c16_i32
  ![v203.toNat]
@[reducible] def k0_t7_loop : Scf.Loop 32 :=
  let c0_i32_311 : BitVec 32 := 0#32
  let c36_i32_312 : BitVec 32 := 36#32
  let v206 : BitVec 32 := Scalar.addi c0_i32_311 c36_i32_312
  let c1_i32_313 : BitVec 32 := 1#32
  ⟨c0_i32_311, v206, c1_i32_313⟩
def k0_off10 (k0_t7 : Fin k0_t7_loop.trips) : Fin 1 → Nat :=
  let c0_i32_311 : BitVec 32 := 0#32
  let c1_i32_313 : BitVec 32 := 1#32
  let arg19 : BitVec 32 := Scf.iv c0_i32_311 c1_i32_313 k0_t7
  let c16_i32_650 : BitVec 32 := 16#32
  let v406 : BitVec 32 := Scalar.muli arg19 c16_i32_650
  let v407 : Index := Scalar.indexCast v406
  ![v407.toNat]
@[reducible] def k0_t8_loop : Scf.Loop 32 :=
  let c0_i32_316 : BitVec 32 := 0#32
  let c1024_i32_317 : BitVec 32 := 1024#32
  let v209 : BitVec 32 := Scalar.addi c0_i32_316 c1024_i32_317
  let c1_i32_318 : BitVec 32 := 1#32
  ⟨c0_i32_316, v209, c1_i32_318⟩
def k0_off11 (k0_t8 : Fin k0_t8_loop.trips) : Fin 1 → Nat :=
  let c0_i32_316 : BitVec 32 := 0#32
  let c1_i32_318 : BitVec 32 := 1#32
  let arg19 : BitVec 32 := Scf.iv c0_i32_316 c1_i32_318 k0_t8
  let c16_i32_650 : BitVec 32 := 16#32
  let v405 : BitVec 32 := Scalar.muli arg19 c16_i32_650
  let v406 : Index := Scalar.indexCast v405
  ![v406.toNat]

def k0_chk12 (v419 : IVec S16 32) : Prop :=
  (∀ a x, ((![v419] : Fin 1 → IVec S16 32) a x).toNat < S16400.size a)
theorem k0_idx12_inb : ∀ (v419 : IVec S16 32) (k0_hw12 : k0_chk12 v419), ∀ a x, ((![v419] : Fin 1 → IVec S16 32) a x).toNat < S16400.size a := fun v419 k0_hw12 => k0_hw12
@[reducible] def k0_t9_loop : Scf.Loop 32 :=
  let c0_i32_322 : BitVec 32 := 0#32
  let c256_i32_323 : BitVec 32 := 256#32
  let v212 : BitVec 32 := Scalar.addi c0_i32_322 c256_i32_323
  let c1_i32_324 : BitVec 32 := 1#32
  ⟨c0_i32_322, v212, c1_i32_324⟩
def k0_off12 (k0_t9 : Fin k0_t9_loop.trips) : Fin 1 → Nat :=
  let c0_i32_322 : BitVec 32 := 0#32
  let c1_i32_324 : BitVec 32 := 1#32
  let arg19 : BitVec 32 := Scf.iv c0_i32_322 c1_i32_324 k0_t9
  let c16_i32_650 : BitVec 32 := 16#32
  let v406 : BitVec 32 := Scalar.muli arg19 c16_i32_650
  let v407 : Index := Scalar.indexCast v406
  ![v407.toNat]
@[reducible] def k0_t10_loop : Scf.Loop 32 :=
  let c0_i32_327 : BitVec 32 := 0#32
  let c32_i32_328 : BitVec 32 := 32#32
  let v217 : BitVec 32 := Scalar.addi c0_i32_327 c32_i32_328
  let c1_i32_329 : BitVec 32 := 1#32
  ⟨c0_i32_327, v217, c1_i32_329⟩
def k0_off13 (k0_t10 : Fin k0_t10_loop.trips) : Fin 1 → Nat :=
  let c0_i32_327 : BitVec 32 := 0#32
  let c1_i32_329 : BitVec 32 := 1#32
  let arg19 : BitVec 32 := Scf.iv c0_i32_327 c1_i32_329 k0_t10
  let c16_i32_651 : BitVec 32 := 16#32
  let v409 : BitVec 32 := Scalar.muli arg19 c16_i32_651
  let v410 : Index := Scalar.indexCast v409
  ![v410.toNat]

def k0_chk13 (v420 : IVec S16 32) : Prop :=
  (∀ a x, ((![v420] : Fin 1 → IVec S16 32) a x).toNat < S16384.size a)
theorem k0_idx13_inb : ∀ (v420 : IVec S16 32) (k0_hw13 : k0_chk13 v420), ∀ a x, ((![v420] : Fin 1 → IVec S16 32) a x).toNat < S16384.size a := fun v420 k0_hw13 => k0_hw13

def k0_chk14 (v424 : IVec S16 32) : Prop :=
  (∀ a x, ((![v424] : Fin 1 → IVec S16 32) a x).toNat < S4096.size a)
theorem k0_idx14_inb : ∀ (v424 : IVec S16 32) (k0_hw14 : k0_chk14 v424), ∀ a x, ((![v424] : Fin 1 → IVec S16 32) a x).toNat < S4096.size a := fun v424 k0_hw14 => k0_hw14

def k0_chk15 (v426 : IVec S16 32) : Prop :=
  (∀ a x, ((![v426] : Fin 1 → IVec S16 32) a x).toNat < S4096.size a)
theorem k0_idx15_inb : ∀ (v426 : IVec S16 32) (k0_hw15 : k0_chk15 v426), ∀ a x, ((![v426] : Fin 1 → IVec S16 32) a x).toNat < S4096.size a := fun v426 k0_hw15 => k0_hw15

def k0_chk16 (v429 : IVec S16 32) : Prop :=
  (∀ a x, ((![v429] : Fin 1 → IVec S16 32) a x).toNat < S4096.size a)
theorem k0_idx16_inb : ∀ (v429 : IVec S16 32) (k0_hw16 : k0_chk16 v429), ∀ a x, ((![v429] : Fin 1 → IVec S16 32) a x).toNat < S4096.size a := fun v429 k0_hw16 => k0_hw16

def k0_chk17 (v432 : IVec S16 32) : Prop :=
  (∀ a x, ((![v432] : Fin 1 → IVec S16 32) a x).toNat < S4096.size a)
theorem k0_idx17_inb : ∀ (v432 : IVec S16 32) (k0_hw17 : k0_chk17 v432), ∀ a x, ((![v432] : Fin 1 → IVec S16 32) a x).toNat < S4096.size a := fun v432 k0_hw17 => k0_hw17

def k0_chk18 (v434 : IVec S16 32) : Prop :=
  (∀ a x, ((![v434] : Fin 1 → IVec S16 32) a x).toNat < S4096.size a)
theorem k0_idx18_inb : ∀ (v434 : IVec S16 32) (k0_hw18 : k0_chk18 v434), ∀ a x, ((![v434] : Fin 1 → IVec S16 32) a x).toNat < S4096.size a := fun v434 k0_hw18 => k0_hw18

def k0_chk19 (v436 : IVec S16 32) : Prop :=
  (∀ a x, ((![v436] : Fin 1 → IVec S16 32) a x).toNat < S4096.size a)
theorem k0_idx19_inb : ∀ (v436 : IVec S16 32) (k0_hw19 : k0_chk19 v436), ∀ a x, ((![v436] : Fin 1 → IVec S16 32) a x).toNat < S4096.size a := fun v436 k0_hw19 => k0_hw19

def k0_chk20 (v438 : IVec S16 32) : Prop :=
  (∀ a x, ((![v438] : Fin 1 → IVec S16 32) a x).toNat < S4096.size a)
theorem k0_idx20_inb : ∀ (v438 : IVec S16 32) (k0_hw20 : k0_chk20 v438), ∀ a x, ((![v438] : Fin 1 → IVec S16 32) a x).toNat < S4096.size a := fun v438 k0_hw20 => k0_hw20

def k0_chk21 (v440 : IVec S16 32) : Prop :=
  (∀ a x, ((![v440] : Fin 1 → IVec S16 32) a x).toNat < S4096.size a)
theorem k0_idx21_inb : ∀ (v440 : IVec S16 32) (k0_hw21 : k0_chk21 v440), ∀ a x, ((![v440] : Fin 1 → IVec S16 32) a x).toNat < S4096.size a := fun v440 k0_hw21 => k0_hw21
@[reducible] def k0_t11_loop : Scf.Loop 32 :=
  let c0_i32_335 : BitVec 32 := 0#32
  let c32_i32_336 : BitVec 32 := 32#32
  let v222 : BitVec 32 := Scalar.addi c0_i32_335 c32_i32_336
  let c1_i32_337 : BitVec 32 := 1#32
  ⟨c0_i32_335, v222, c1_i32_337⟩
def k0_off14 (k0_t11 : Fin k0_t11_loop.trips) : Fin 1 → Nat :=
  let c0_i32_335 : BitVec 32 := 0#32
  let c1_i32_337 : BitVec 32 := 1#32
  let arg19 : BitVec 32 := Scf.iv c0_i32_335 c1_i32_337 k0_t11
  let c16_i32_650 : BitVec 32 := 16#32
  let v405 : BitVec 32 := Scalar.muli arg19 c16_i32_650
  let v406 : Index := Scalar.indexCast v405
  ![v406.toNat]
@[reducible] def k0_t12_loop : Scf.Loop 32 :=
  let c0_i32_340 : BitVec 32 := 0#32
  let c128_i32_341 : BitVec 32 := 128#32
  let v224 : BitVec 32 := Scalar.addi c0_i32_340 c128_i32_341
  let c1_i32_342 : BitVec 32 := 1#32
  ⟨c0_i32_340, v224, c1_i32_342⟩

def k0_chk22 (v409 : IVec S16 32) : Prop :=
  (∀ a x, ((![v409] : Fin 1 → IVec S16 32) a x).toNat < S16400.size a)
theorem k0_idx22_inb : ∀ (v409 : IVec S16 32) (k0_hw22 : k0_chk22 v409), ∀ a x, ((![v409] : Fin 1 → IVec S16 32) a x).toNat < S16400.size a := fun v409 k0_hw22 => k0_hw22
def k0_off15 (k0_t12 : Fin k0_t12_loop.trips) : Fin 1 → Nat :=
  let c0_i32_340 : BitVec 32 := 0#32
  let c1_i32_342 : BitVec 32 := 1#32
  let arg19 : BitVec 32 := Scf.iv c0_i32_340 c1_i32_342 k0_t12
  let c16_i32_653 : BitVec 32 := 16#32
  let v416 : BitVec 32 := Scalar.muli arg19 c16_i32_653
  let v417 : Index := Scalar.indexCast v416
  ![v417.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x2048x1024 : Shape := ⟨3, ![4, 2048, 1024]⟩
abbrev S4x2048x2 : Shape := ⟨3, ![4, 2048, 2]⟩
abbrev S4x4096 : Shape := ⟨2, ![4, 4096]⟩
abbrev S4x4096x1 : Shape := ⟨3, ![4, 4096, 1]⟩
abbrev S1x1x64 : Shape := ⟨3, ![1, 1, 64]⟩
abbrev S4x4096x64 : Shape := ⟨3, ![4, 4096, 64]⟩
abbrev S_ : Shape := ⟨0, ![]⟩
abbrev S4x64 : Shape := ⟨2, ![4, 64]⟩
abbrev S1x64 : Shape := ⟨2, ![1, 64]⟩
abbrev S3x64 : Shape := ⟨2, ![3, 64]⟩
abbrev S4x4096x1x1 : Shape := ⟨4, ![4, 4096, 1, 1]⟩
abbrev S1 : Shape := ⟨1, ![1]⟩
abbrev S1x1x1x1 : Shape := ⟨4, ![1, 1, 1, 1]⟩
abbrev S1x1x1 : Shape := ⟨3, ![1, 1, 1]⟩
abbrev S16384 : Shape := ⟨1, ![16384]⟩
abbrev S4x2048x2x1024 : Shape := ⟨4, ![4, 2048, 2, 1024]⟩
abbrev S4x4096x1024 : Shape := ⟨3, ![4, 4096, 1024]⟩
abbrev S16384x1024 : Shape := ⟨2, ![16384, 1024]⟩
abbrev S32769x1024 : Shape := ⟨2, ![32769, 1024]⟩
abbrev S16384x1 : Shape := ⟨2, ![16384, 1]⟩
abbrev S32768x1024 : Shape := ⟨2, ![32768, 1024]⟩
abbrev S4x16x512x1024 : Shape := ⟨4, ![4, 16, 512, 1024]⟩
abbrev S4 : Shape := ⟨1, ![4]⟩
abbrev S4x1 : Shape := ⟨2, ![4, 1]⟩
abbrev S2048 : Shape := ⟨1, ![2048]⟩
abbrev S2048x2 : Shape := ⟨2, ![2048, 2]⟩
abbrev S4096 : Shape := ⟨1, ![4096]⟩
abbrev S1x4096 : Shape := ⟨2, ![1, 4096]⟩
abbrev S2 : Shape := ⟨1, ![2]⟩
abbrev S1x2 : Shape := ⟨2, ![1, 2]⟩
abbrev S4x4096x5 : Shape := ⟨3, ![4, 4096, 5]⟩
abbrev S4x4096x3 : Shape := ⟨3, ![4, 4096, 3]⟩
abbrev S4x4096x8 : Shape := ⟨3, ![4, 4096, 8]⟩
abbrev S16384x8 : Shape := ⟨2, ![16384, 8]⟩
abbrev S32769x8 : Shape := ⟨2, ![32769, 8]⟩
abbrev S32768x8 : Shape := ⟨2, ![32768, 8]⟩
abbrev S4x16x512x8 : Shape := ⟨4, ![4, 16, 512, 8]⟩
abbrev S64 : Shape := ⟨1, ![64]⟩
abbrev S4x16 : Shape := ⟨2, ![4, 16]⟩

abbrev nBuf : Space → Nat
  | .hbm => 142
  | .vmem => 0
  | .smem => 0
  | _ => 0

abbrev hbmTy0_0 (i : Nat) : BufTy := match i % 128 with
  | 0 => ⟨S4x2048x1024, .f32⟩
  | 1 => ⟨S4x2048x2, .f32⟩
  | 2 => ⟨S4x2048x2, .i32⟩
  | 3 => ⟨S4x4096, .i32⟩
  | 4 => ⟨S4x4096x1, .i32⟩
  | 5 => ⟨S1x1x64, .i32⟩
  | 6 => ⟨S4x4096x64, .i32⟩
  | 7 => ⟨S4x4096x64, .i32⟩
  | 8 => ⟨S4x4096x64, .i1⟩
  | 9 => ⟨S4x4096x64, .i32⟩
  | 10 => ⟨S_, .i32⟩
  | 11 => ⟨S4x64, .i32⟩
  | 12 => ⟨S_, .i32⟩
  | 13 => ⟨S_, .i32⟩
  | 14 => ⟨S4x64, .i32⟩
  | 15 => ⟨S_, .i32⟩
  | 16 => ⟨S1x64, .i32⟩
  | 17 => ⟨S3x64, .i32⟩
  | 18 => ⟨S4x64, .i32⟩
  | 19 => ⟨S_, .i32⟩
  | 20 => ⟨S_, .i32⟩
  | 21 => ⟨S4x4096x64, .i32⟩
  | 22 => ⟨S4x4096x1, .i32⟩
  | 23 => ⟨S_, .i32⟩
  | 24 => ⟨S4x4096x1, .i32⟩
  | 25 => ⟨S4x4096x1, .i1⟩
  | 26 => ⟨S_, .i32⟩
  | 27 => ⟨S4x4096x1, .i32⟩
  | 28 => ⟨S4x4096x1, .i32⟩
  | 29 => ⟨S4x4096x1, .i32⟩
  | 30 => ⟨S4x4096x1x1, .i32⟩
  | 31 => ⟨S1, .i32⟩
  | 32 => ⟨S_, .i32⟩
  | 33 => ⟨S4x4096x1x1, .i32⟩
  | 34 => ⟨S4x4096x1x1, .i1⟩
  | 35 => ⟨S1x1x1x1, .i32⟩
  | 36 => ⟨S4x4096x1x1, .i32⟩
  | 37 => ⟨S4x4096x1x1, .i1⟩
  | 38 => ⟨S4x4096x1x1, .i1⟩
  | 39 => ⟨S_, .i1⟩
  | 40 => ⟨S4x4096x1, .i1⟩
  | 41 => ⟨S4x4096x1, .i32⟩
  | 42 => ⟨S_, .i32⟩
  | 43 => ⟨S4x4096x1, .i32⟩
  | 44 => ⟨S4x4096x1, .i32⟩
  | 45 => ⟨S4x4096, .i32⟩
  | 46 => ⟨S_, .i32⟩
  | 47 => ⟨S4x4096, .i32⟩
  | 48 => ⟨S4x4096, .i32⟩
  | 49 => ⟨S_, .i32⟩
  | 50 => ⟨S4x4096, .i32⟩
  | 51 => ⟨S4x4096, .i1⟩
  | 52 => ⟨S_, .i32⟩
  | 53 => ⟨S4x4096, .i32⟩
  | 54 => ⟨S4x4096, .i32⟩
  | 55 => ⟨S4x4096, .i32⟩
  | 56 => ⟨S4x4096x1, .i32⟩
  | 57 => ⟨S1, .i32⟩
  | 58 => ⟨S_, .i32⟩
  | 59 => ⟨S4x4096x1, .i32⟩
  | 60 => ⟨S4x4096x1, .i1⟩
  | 61 => ⟨S1x1x1, .i32⟩
  | 62 => ⟨S4x4096x1, .i32⟩
  | 63 => ⟨S4x4096x1, .i1⟩
  | 64 => ⟨S4x4096x1, .i1⟩
  | 65 => ⟨S_, .i1⟩
  | 66 => ⟨S4x4096, .i1⟩
  | 67 => ⟨S4x4096, .i32⟩
  | 68 => ⟨S_, .i32⟩
  | 69 => ⟨S4x4096, .i32⟩
  | 70 => ⟨S4x4096, .i32⟩
  | 71 => ⟨S4x4096, .i32⟩
  | 72 => ⟨S_, .i32⟩
  | 73 => ⟨S4x4096, .i32⟩
  | 74 => ⟨S4x4096, .i1⟩
  | 75 => ⟨S_, .i32⟩
  | 76 => ⟨S4x4096, .i32⟩
  | 77 => ⟨S4x4096, .i32⟩
  | 78 => ⟨S4x4096, .i32⟩
  | 79 => ⟨S_, .i32⟩
  | 80 => ⟨S_, .i32⟩
  | 81 => ⟨S4x4096, .i32⟩
  | 82 => ⟨S4x4096, .i32⟩
  | 83 => ⟨S16384, .i32⟩
  | 84 => ⟨S4x2048x2x1024, .f32⟩
  | 85 => ⟨S4x4096x1024, .f32⟩
  | 86 => ⟨S16384x1024, .f32⟩
  | 87 => ⟨S_, .f32⟩
  | 88 => ⟨S32769x1024, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S32769x1024, .f32⟩
  | 98 => ⟨S32768x1024, .f32⟩
  | 99 => ⟨S4x16x512x1024, .f32⟩
  | 100 => ⟨S4, .f32⟩
  | 101 => ⟨S4x1, .f32⟩
  | 102 => ⟨S4x4096, .f32⟩
  | 103 => ⟨S2048, .f32⟩
  | 104 => ⟨S2048x2, .f32⟩
  | 105 => ⟨S4096, .f32⟩
  | 106 => ⟨S1x4096, .f32⟩
  | 107 => ⟨S4x4096, .f32⟩
  | 108 => ⟨S2, .f32⟩
  | 109 => ⟨S1x2, .f32⟩
  | 110 => ⟨S2048x2, .f32⟩
  | 111 => ⟨S4096, .f32⟩
  | 112 => ⟨S1x4096, .f32⟩
  | 113 => ⟨S4x4096, .f32⟩
  | 114 => ⟨S4x4096, .f32⟩
  | 115 => ⟨S4x4096, .f32⟩
  | 116 => ⟨S4x4096x1, .f32⟩
  | 117 => ⟨S4x4096x1, .f32⟩
  | 118 => ⟨S4x4096x1, .f32⟩
  | 119 => ⟨S4x4096x1, .f32⟩
  | 120 => ⟨S4x4096x1, .f32⟩
  | 121 => ⟨S4x4096x5, .f32⟩
  | 122 => ⟨S_, .f32⟩
  | 123 => ⟨S4x4096x3, .f32⟩
  | 124 => ⟨S4x4096x8, .f32⟩
  | 125 => ⟨S16384x8, .f32⟩
  | 126 => ⟨S_, .f32⟩
  | 127 => ⟨S32769x8, .f32⟩
  | _ => ⟨S4x2048x1024, .f32⟩

abbrev hbmTy0_1 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S32769x8, .f32⟩
  | 9 => ⟨S32768x8, .f32⟩
  | 10 => ⟨S4x16x512x8, .f32⟩
  | 11 => ⟨S_, .i32⟩
  | 12 => ⟨S64, .i32⟩
  | 13 => ⟨S4x16, .i32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_call1_call0_c : Ref sig .tc := ⟨.hbm, 12, rfl⟩
abbrev main_call1_call0_v0 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call2_call0_c : Ref sig .tc := ⟨.hbm, 19, rfl⟩
abbrev main_call2_call0_v0 : Ref sig .tc := ⟨.hbm, 20, rfl⟩
abbrev main_v7 : Ref sig .tc := ⟨.hbm, 21, rfl⟩
abbrev main_v8 : Ref sig .tc := ⟨.hbm, 22, rfl⟩
abbrev main_call3_c : Ref sig .tc := ⟨.hbm, 23, rfl⟩
abbrev main_call3_v0 : Ref sig .tc := ⟨.hbm, 24, rfl⟩
abbrev main_call3_v1 : Ref sig .tc := ⟨.hbm, 25, rfl⟩
abbrev main_call3_c_0 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_call3_v5 : Ref sig .tc := ⟨.hbm, 30, rfl⟩
abbrev main_call3_c_1 : Ref sig .tc := ⟨.hbm, 31, rfl⟩
abbrev main_call3_c_2 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_v9 : Ref sig .tc := ⟨.hbm, 36, rfl⟩
abbrev main_call3_v10 : Ref sig .tc := ⟨.hbm, 37, rfl⟩
abbrev main_call3_v11 : Ref sig .tc := ⟨.hbm, 38, rfl⟩
abbrev main_call3_c_3 : Ref sig .tc := ⟨.hbm, 39, rfl⟩
abbrev main_call3_v12 : Ref sig .tc := ⟨.hbm, 40, rfl⟩
abbrev main_call3_v13 : Ref sig .tc := ⟨.hbm, 41, rfl⟩
abbrev main_call3_c_4 : Ref sig .tc := ⟨.hbm, 42, rfl⟩
abbrev main_call3_v14 : Ref sig .tc := ⟨.hbm, 43, rfl⟩
abbrev main_v9 : Ref sig .tc := ⟨.hbm, 44, rfl⟩
abbrev main_v10 : Ref sig .tc := ⟨.hbm, 45, rfl⟩
abbrev main_c_1 : Ref sig .tc := ⟨.hbm, 46, rfl⟩
abbrev main_v11 : Ref sig .tc := ⟨.hbm, 47, rfl⟩
abbrev main_v12 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_c_1 : Ref sig .tc := ⟨.hbm, 57, rfl⟩
abbrev main_call4_c_2 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_3 : Ref sig .tc := ⟨.hbm, 65, rfl⟩
abbrev main_call4_v12 : Ref sig .tc := ⟨.hbm, 66, rfl⟩
abbrev main_call4_v13 : Ref sig .tc := ⟨.hbm, 67, rfl⟩
abbrev main_call4_c_4 : Ref sig .tc := ⟨.hbm, 68, rfl⟩
abbrev main_call4_v14 : Ref sig .tc := ⟨.hbm, 69, rfl⟩
abbrev main_v13 : Ref sig .tc := ⟨.hbm, 70, rfl⟩
abbrev main_v14 : Ref sig .tc := ⟨.hbm, 71, rfl⟩
abbrev main_c_2 : Ref sig .tc := ⟨.hbm, 72, rfl⟩
abbrev main_v15 : Ref sig .tc := ⟨.hbm, 73, rfl⟩
abbrev main_v16 : Ref sig .tc := ⟨.hbm, 74, rfl⟩
abbrev main_c_3 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_c_4 : Ref sig .tc := ⟨.hbm, 79, rfl⟩
abbrev main_call5_v0 : Ref sig .tc := ⟨.hbm, 80, rfl⟩
abbrev main_call5_v1 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_cst : Ref sig .tc := ⟨.hbm, 87, rfl⟩
abbrev main_v25 : Ref sig .tc := ⟨.hbm, 88, rfl⟩
abbrev main_c_5 : Ref sig .tc := ⟨.hbm, 89, rfl⟩
abbrev main_v26 : Ref sig .tc := ⟨.hbm, 90, rfl⟩
abbrev main_v27 : Ref sig .tc := ⟨.hbm, 91, rfl⟩
abbrev main_c_6 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_cst_7 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_8 : Ref sig .tc := ⟨.hbm, 126, rfl⟩
abbrev main_v60 : Ref sig .tc := ⟨.hbm, 127, rfl⟩
abbrev main_c_9 : Ref sig .tc := ⟨.hbm, 128, rfl⟩
abbrev main_v61 : Ref sig .tc := ⟨.hbm, 129, rfl⟩
abbrev main_v62 : Ref sig .tc := ⟨.hbm, 130, rfl⟩
abbrev main_c_10 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_c_11 : Ref sig .tc := ⟨.hbm, 139, rfl⟩
abbrev main_v70 : Ref sig .tc := ⟨.hbm, 140, rfl⟩
abbrev main_v71 : Ref sig .tc := ⟨.hbm, 141, rfl⟩

abbrev nD : Nat := 1
abbrev τ : Topo := Topo.v7x

variable {F : FTy → Type} [FloatOps F]
-- ==== Proof.Stages.lean ====
/-
  The reference's slot computation, stage by stage: one-hot words, counts, running counts, the two takes, the slot of
  every assignment. Each stage is a function of the index array; the composed terms of the reference's run are theirs.
-/
module

public import proofs.«01_k».proof.Proof.Gen.ReferenceIdeal
public import proofs.«01_k».proof.Proof.Gen.ReferenceIdeal.Run
public import Idealize.ShloMosaic.Lib.Routing.OpsOne
public import Idealize.ShloMosaic.Lib.Routing.OpsSet
public import Idealize.ShloMosaic.Lib.ReduceAll

@[expose] public section

noncomputable section

namespace Cert.Proof.Plain

open Cert.ReferenceIdeal Cert.ReferenceIdeal.Gen
open Idealize.ShloMosaic Idealize.ShloMosaic.TcCoe Idealize.SL.Sem

variable {F : FTy → Type} [FloatOps F]

section Stages

variable (a : IVec S4x2048x2 32)

/-- The assignments of each chip in order. -/
def flat : IVec S4x4096 32 := shapeCast _ a shapeCasts_S4x2048x2_S4x4096

/-- One-hot words. -/
def oneHot : IVec S4x4096x64 32 :=
  extui 32 (cmpi .eq (broadcastInDim S4x4096x64 ![0, 1, 2] bcast_S4x4096x1_S4x4096x64_0_1_2 (broadcastInDim S4x4096x1 ![0, 1] bcast_S4x4096_S4x4096x1_0_1 (flat a)))
    (broadcastInDim S4x4096x64 ![0, 1, 2] bcast_S1x1x64_S4x4096x64_0_1_2 (iotaInDim S1x1x64 32 2))) natLt_1_32

/-- How many assignments each chip sends to each expert. -/
def counts : IVec S4x64 32 := Host.reduce IntOp.addi (oneHot a) (constantI S_ 32 0#32) reducesTo_S4x4096x64_S4x64_d1 h_S_

/-- The counts of the chips so far. -/
def cumCounts : IVec S4x64 32 :=
  Host.reduceWindow IntOp.addi ![4, 1] ![1, 1] ![3, 0] ![0, 0] (counts a) (broadcastInDim S_ ![] bcast_S_S_ (constantI S_ 32 0#32)) reduceWindows_S4x64_S4x64_w4s1p3_0_w1s1p0_0 h_S_

/-- The counts of the chips before. -/
def base : IVec S4x64 32 :=
  concatenate S4x64 0 [⟨S1x64, (broadcastInDim S1x64 ![] bcast_S_S1x64 (constantI S_ 32 0#32))⟩, ⟨S3x64, (extractStridedSlice S3x64 ![0, 0] (cumCounts a) slices_S4x64_S3x64_0_0)⟩]
    concatenates_S1x64_S3x64_S4x64_d0

/-- The running count within a chip. -/
def running : IVec S4x4096x64 32 :=
  Host.reduceWindow IntOp.addi ![1, 4096, 1] ![1, 1, 1] ![0, 4095, 0] ![0, 0, 0] (oneHot a) (broadcastInDim S_ ![] bcast_S_S_ (constantI S_ 32 0#32))
    reduceWindows_S4x4096x64_S4x4096x64_w1s1p0_0_w4096s1p4095_0_w1s1p0_0 h_S_

/-- The first take's start indices. -/
def starts2 : IVec S4x4096x1 32 :=
  shapeCast _ (select (cmpi .slt (flat a) (broadcastInDim S4x4096 ![] bcast_S_S4x4096 (constantI S_ 32 0#32))) (addi (flat a) (broadcastInDim S4x4096 ![] bcast_S_S4x4096 (constantI S_ 32 64#32))) (flat a)) shapeCasts_S4x4096_S4x4096x1

/-- The counts of the chips before, at each assignment's expert. -/
def baseAt : IVec S4x4096 32 :=
  select (Host.reduce IntOp.andi (andi (cmpi .sge (starts2 a) (broadcastInDim S4x4096x1 ![] bcast_S_S4x4096x1 (constantI S_ 32 0#32)))
      (cmpi .sle (starts2 a) (broadcastInDim S4x4096x1 ![0, 1, 2] bcast_S1x1x1_S4x4096x1_0_1_2 (broadcastInDim S1x1x1 ![2] bcast_S1_S1x1x1_2 (constantI S1 32 63#32)))))
      (constantI S_ 1 1#1) reducesTo_S4x4096x1_S4x4096_d2 h_S_)
    (Host.gather gather_S4x64_S4x4096x1_S4x4096_n_1_0_0_1_2_11 (base a) (starts2 a)) (broadcastInDim S4x4096 ![] bcast_S_S4x4096 (constantI S_ 32 2147483648#32))

/-- The assignments with a unit axis, as the second take has them. -/
def flat3 : IVec S4x4096x1 32 := broadcastInDim S4x4096x1 ![0, 1] bcast_S4x4096_S4x4096x1_0_1 (flat a)

/-- The second take's start indices. -/
def starts3 : IVec S4x4096x1x1 32 :=
  shapeCast _ (select (cmpi .slt (flat3 a) (broadcastInDim S4x4096x1 ![] bcast_S_S4x4096x1 (constantI S_ 32 0#32))) (addi (flat3 a) (broadcastInDim S4x4096x1 ![] bcast_S_S4x4096x1 (constantI S_ 32 64#32))) (flat3 a)) shapeCasts_S4x4096x1_S4x4096x1x1

/-- The running count at each assignment's expert. -/
def runningAt : IVec S4x4096x1 32 :=
  select (Host.reduce IntOp.andi (andi (cmpi .sge (starts3 a) (broadcastInDim S4x4096x1x1 ![] bcast_S_S4x4096x1x1 (constantI S_ 32 0#32)))
      (cmpi .sle (starts3 a) (broadcastInDim S4x4096x1x1 ![0, 1, 2, 3] bcast_S1x1x1x1_S4x4096x1x1_0_1_2_3 (broadcastInDim S1x1x1x1 ![3] bcast_S1_S1x1x1x1_3 (constantI S1 32 63#32)))))
      (constantI S_ 1 1#1) reducesTo_S4x4096x1x1_S4x4096x1_d3 h_S_)
    (Host.gather gather_S4x4096x64_S4x4096x1x1_S4x4096x1_n_2_01_01_2_3_111 (running a) (starts3 a)) (broadcastInDim S4x4096x1 ![] bcast_S_S4x4096x1 (constantI S_ 32 2147483648#32))

/-- Each assignment's place in its expert's buffer. -/
def place : IVec S4x4096 32 :=
  addi (baseAt a) (subi (shapeCast _ (runningAt a) shapeCasts_S4x4096x1_S4x4096) (broadcastInDim S4x4096 ![] bcast_S_S4x4096 (constantI S_ 32 1#32)))

/-- Each assignment's row in the dispatched arrays, the last row where its expert's buffer is full. -/
def slot : IVec S16384 32 :=
  shapeCast _ (select (cmpi .slt (place a) (broadcastInDim S4x4096 ![] bcast_S_S4x4096 (constantI S_ 32 512#32)))
    (addi (muli (flat a) (broadcastInDim S4x4096 ![] bcast_S_S4x4096 (constantI S_ 32 512#32))) (place a))
    (broadcastInDim S4x4096 ![] bcast_S_S4x4096 (id (constantI S_ 32 32768#32)))) shapeCasts_S4x4096_S16384

/-- The scatters' start indices. -/
def rowOf : IVec S16384x1 32 :=
  broadcastInDim S16384x1 ![0] bcast_S16384_S16384x1_0 (select (cmpi .slt (slot a) (broadcastInDim S16384 ![] bcast_S_S16384 (constantI S_ 32 0#32)))
    (addi (slot a) (broadcastInDim S16384 ![] bcast_S_S16384 (constantI S_ 32 32769#32))) (slot a))

/-- The rows the first scatter writes. -/
def xRep (x : FVec F S4x2048x1024 .f32) : FVec F S16384x1024 .f32 :=
  shapeCast _ (shapeCast _ (broadcastInDim S4x2048x2x1024 ![0, 1, 3] bcast_S4x2048x1024_S4x2048x2x1024_0_1_3 x) shapeCasts_S4x2048x2x1024_S4x4096x1024) shapeCasts_S4x4096x1024_S16384x1024

/-- The five columns of the metadata rows. -/
def chipCol : FVec F S4x4096x1 .f32 :=
  broadcastInDim S4x4096x1 ![0, 1] bcast_S4x4096_S4x4096x1_0_1 (broadcastInDim S4x4096 ![0, 1] bcast_S4x1_S4x4096_0_1 (broadcastInDim S4x1 ![0] bcast_S4_S4x1_0 (sitofp .f32 (iotaInDim S4 32 0))))
def tokenCol : FVec F S4x4096x1 .f32 :=
  broadcastInDim S4x4096x1 ![0, 1] bcast_S4x4096_S4x4096x1_0_1 (broadcastInDim S4x4096 ![0, 1] bcast_S1x4096_S4x4096_0_1 (broadcastInDim S1x4096 ![1] bcast_S4096_S1x4096_1
    (shapeCast S4096 (broadcastInDim S2048x2 ![0] bcast_S2048_S2048x2_0 (sitofp .f32 (iotaInDim S2048 32 0))) shapeCasts_S2048x2_S4096)))
def topkCol : FVec F S4x4096x1 .f32 :=
  broadcastInDim S4x4096x1 ![0, 1] bcast_S4x4096_S4x4096x1_0_1 (broadcastInDim S4x4096 ![0, 1] bcast_S1x4096_S4x4096_0_1 (broadcastInDim S1x4096 ![1] bcast_S4096_S1x4096_1
    (shapeCast S4096 (broadcastInDim S2048x2 ![0, 1] bcast_S1x2_S2048x2_0_1 (shapeCast S1x2 (sitofp .f32 (iotaInDim S2 32 0)) shapeCasts_S2_S1x2)) shapeCasts_S2048x2_S4096)))
def expertCol : FVec F S4x4096x1 .f32 := broadcastInDim S4x4096x1 ![0, 1] bcast_S4x4096_S4x4096x1_0_1 (sitofp .f32 (flat a))
def weightCol (w : FVec F S4x2048x2 .f32) : FVec F S4x4096x1 .f32 :=
  broadcastInDim S4x4096x1 ![0, 1] bcast_S4x4096_S4x4096x1_0_1 (shapeCast S4x4096 w shapeCasts_S4x2048x2_S4x4096)

/-- The metadata rows of eight words. -/
def metaRows (w : FVec F S4x2048x2 .f32) : FVec F S16384x8 .f32 :=
  shapeCast _ (concatenate S4x4096x8 2 [⟨S4x4096x5, concatenate S4x4096x5 2 [⟨S4x4096x1, chipCol⟩, ⟨S4x4096x1, tokenCol⟩, ⟨S4x4096x1, topkCol⟩, ⟨S4x4096x1, expertCol a⟩, ⟨S4x4096x1, weightCol w⟩]
      concatenates_S4x4096x1_S4x4096x1_S4x4096x1_S4x4096x1_S4x4096x1_S4x4096x5_d2⟩, ⟨S4x4096x3, broadcastInDim S4x4096x3 ![] bcast_S_S4x4096x3 (constant S_ .f32 0x00000000#32)⟩]
      concatenates_S4x4096x5_S4x4096x3_S4x4096x8_d2) shapeCasts_S4x4096x8_S16384x8

/-- The three results. -/
def rowsOut (x : FVec F S4x2048x1024 .f32) : FVec F S4x16x512x1024 .f32 :=
  shapeCast _ (extractStridedSlice S32768x1024 ![0, 0] (Host.scatter scatter_S32769x1024_S16384x1_S16384x1024_1_0_0_1 (fun _ b => b) (broadcastInDim S32769x1024 ![] bcast_S_S32769x1024 (constant S_ .f32 0x00000000#32))
    (rowOf a) (xRep x)) slices_S32769x1024_S32768x1024_0_0) shapeCasts_S32768x1024_S4x16x512x1024
def metaOut (w : FVec F S4x2048x2 .f32) : FVec F S4x16x512x8 .f32 :=
  shapeCast _ (extractStridedSlice S32768x8 ![0, 0] (Host.scatter scatter_S32769x8_S16384x1_S16384x8_1_0_0_1 (fun _ b => b) (broadcastInDim S32769x8 ![] bcast_S_S32769x8 (constant S_ .f32 0xBF800000#32))
    (rowOf a) (metaRows a w)) slices_S32769x8_S32768x8_0_0) shapeCasts_S32768x8_S4x16x512x8
def totalOut : IVec S4x16 32 := shapeCast _ (Host.reduce IntOp.addi (counts a) (constantI S_ 32 0#32) reducesTo_S4x64_S64_d0 h_S_) shapeCasts_S64_S4x16

end Stages

variable (m : (ℓ : Loc nD τ sig) → Buf (Elt F) ℓ) (c : Dev nD)

set_option maxRecDepth 8192 in
theorem rows_eq : Value.res_main_v34 m c = rowsOut (F := F) (m ((c.tc : Thread nD τ).loc main_arg2)) (m ((c.tc : Thread nD τ).loc main_arg0)) := rfl

set_option maxRecDepth 8192 in
theorem meta_eq : Value.res_main_v69 m c = metaOut (F := F) (m ((c.tc : Thread nD τ).loc main_arg2)) (m ((c.tc : Thread nD τ).loc main_arg1)) := rfl

end Cert.Proof.Plain

end
-- ==== Proof.Lanes.lean ====
/-
  Facts about sixteen-lane vectors that know no buffer: what a masked scatter leaves at an index, the running sum of
  sixteen 0/1 words, and the words of the small integers the kernel computes with.
-/
module

public import proofs.«01_k».proof.Defs
public import proofs.«01_k».proof.Proof.Gen.KernelIdeal
public import proofs.«01_k».proof.Proof.Gen.KernelIdeal.Skeleton
public import Idealize.ShloMosaic.Lib.SparseCore.Ops

@[expose] public section

noncomputable section

namespace Cert.Proof.Dispatch

open Idealize.ShloMosaic Cert.KernelIdeal Cert.KernelIdeal.Gen

/-! ## Masked scatter -/

section Scatter

variable {F : FTy → Type} [FloatOps F] {s : Shape} {e : EltTy} {d : Fin 1 → Nat}

/-- One lane's step of a scatter that does not add. -/
def putLane (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = (idxs a (Shape.ofLane k)).toNat) then v (Shape.ofLane k) else g j
  else g

theorem storeIdx_eq_foldl (f : Vec F s e) (idxs : Fin s.rank → IVec ⟨1, d⟩ 32) (v : Vec F ⟨1, d⟩ e) (mask : IVec ⟨1, d⟩ 1)
    (h : ∀ a x, (idxs a x).toNat < s.size a) :
    storeIdx f idxs v mask false h = (List.finRange (d 0)).foldl (putLane idxs v mask h) f := by
  unfold storeIdx
  congr 1
  funext g k
  unfold putLane
  by_cases hm : mask (Shape.ofLane k) = 1
  · simp only [hm, if_true]
    funext j
    by_cases hj : ∀ a, (j a).val = (idxs a (Shape.ofLane k)).toNat
    · rw [if_pos hj]; exact if_pos hj
    · rw [if_neg hj]; exact if_neg hj
  · simp only [hm, if_false]

theorem foldl_putLane_miss (idxs : Fin s.rank → IVec ⟨1, d⟩ 32) (v : Vec F ⟨1, d⟩ e) (mask : IVec ⟨1, d⟩ 1)
    (h : ∀ a x, (idxs a x).toNat < s.size a) (j : s.Idx) (L : List (Fin (d 0)))
    (hm : ∀ k ∈ L, mask (Shape.ofLane k) = 1 → ¬ ∀ a, (j a).val = (idxs a (Shape.ofLane k)).toNat) (f : Vec F s e) :
    L.foldl (putLane idxs v mask h) f j = f j := by
  induction L generalizing f with
  | nil => rfl
  | cons k L ih =>
    rw [List.foldl_cons, ih (fun k' hk' => hm k' (List.mem_cons_of_mem _ hk'))]
    unfold putLane
    by_cases hk : mask (Shape.ofLane k) = 1
    · rw [if_pos hk, if_neg (hm k List.mem_cons_self hk)]
    · rw [if_neg hk]

/-- At an index no set lane names, a scatter leaves what was there. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hm : ∀ k : Fin (d 0), mask (Shape.ofLane k) = 1 → ¬ ∀ a, (j a).val = (idxs a (Shape.ofLane k)).toNat) :
    storeIdx f idxs v mask false h j = f j :=
  (congrFun (storeIdx_eq_foldl f idxs v mask h) j).trans (foldl_putLane_miss idxs v mask h j _ (fun k _ => hm k) f)

/-- At the index exactly one set lane names, a scatter leaves that lane's value. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (k : Fin (d 0)) (hk : mask (Shape.ofLane k) = 1)
    (hj : ∀ a, (j a).val = (idxs a (Shape.ofLane k)).toNat)
    (hu : ∀ k' : Fin (d 0), mask (Shape.ofLane k') = 1 → (∀ a, (j a).val = (idxs a (Shape.ofLane k')).toNat) → k' = k) :
    storeIdx f idxs v mask false h j = v (Shape.ofLane k) := by
  rw [storeIdx_eq_foldl]
  obtain ⟨L₁, L₂, hL⟩ := List.append_of_mem (List.mem_finRange k)
  have hnd : (List.finRange (d 0)).Nodup := List.nodup_finRange _
  rw [hL] at hnd ⊢
  rw [List.foldl_append, List.foldl_cons, foldl_putLane_miss idxs v mask h j L₂]
  · unfold putLane
    rw [if_pos hk, if_pos hj]
  · intro k' hk' hm hall
    have := hu k' hm hall
    subst this
    have h2 := (List.nodup_append.mp hnd).2.1
    exact (List.nodup_cons.mp h2).1 hk'

end Scatter

/-! ## The running sum -/

/-- The running sum of sixteen words that are the differences of `g` telescopes. -/
theorem scan_sum_telescope (v : IVec S16 32) (g : ℕ → BitVec 32)
    (hv : ∀ k : Fin 16, v (Shape.ofLane k) = g (k.val + 1) - g k.val) (x : S16.Idx) :
    scan .sum v x = g ((x 0).val + 1) - g 0 := by
  have hz : ((List.finRange 16).filter fun k => decide (0 < k.val ∧ k.val ≤ 0)) = [] := by decide
  have hs : ∀ n : Fin 15, ((List.finRange 16).filter fun k => decide (0 < k.val ∧ k.val ≤ n.val + 1))
      = ((List.finRange 16).filter fun k => decide (0 < k.val ∧ k.val ≤ n.val)) ++ [⟨n.val + 1, by omega⟩] := by decide
  have key : ∀ n : ℕ, n < 16 →
      ((List.finRange 16).filter fun k => decide (0 < k.val ∧ k.val ≤ n)).foldl
        (fun r (k : Fin 16) => r + v (Shape.ofLane (d := ![16]) k)) (v (Shape.ofLane (d := ![16]) (⟨0, by decide⟩ : Fin 16))) = g (n + 1) - g 0 := by
    intro n
    induction n with
    | zero => intro _; rw [hz, List.foldl_nil]; exact hv 0
    | succ n ih =>
      intro hn
      rw [hs ⟨n, by omega⟩, List.foldl_append, ih (by omega), List.foldl_cons, List.foldl_nil, hv]
      generalize g (n + 1 + 1) = a, g (n + 1) = b, g 0 = c
      bv_omega
  have hx : (x 0).val < 16 := (x 0).isLt
  exact key (x 0).val hx

end Cert.Proof.Dispatch
-- ==== Proof.Scan.lean ====
/-
  What the scan leaves in the slot list: for one expert `e`, the flat positions `p` of the assignment list `A` whose word
  is `e`, in increasing order, and 16384 (the zero row) above them. Counting is Mathlib's `Nat.count` of the
  predicate `Hit A e`.
-/
module

public import proofs.«01_k».proof.Proof.Lanes
public import Mathlib.Data.Nat.Count

@[expose] public section

noncomputable section

namespace Cert.Proof.Dispatch

open Idealize.ShloMosaic Cert.KernelIdeal Cert.KernelIdeal.Gen

/-- Element `p` of a vector of 16384 words (zero past its end). -/
def elemAt (A : S16384.Idx → BitVec 32) (p : ℕ) : BitVec 32 := if h : p < 16384 then A (Shape.ofLane (d := ![16384]) ⟨p, h⟩) else 0

/-- Position `p` is an assignment to expert word `e`. -/
def Hit (A : S16384.Idx → BitVec 32) (e : BitVec 32) (p : ℕ) : Prop := p < 16384 ∧ elemAt A p = e

instance (A : S16384.Idx → BitVec 32) (e : BitVec 32) : DecidablePred (Hit A e) := fun _ => by unfold Hit; infer_instance

/-- How many of the first `n` positions are assignments to `e`. -/
def cnt (A : S16384.Idx → BitVec 32) (e : BitVec 32) (n : ℕ) : ℕ := Nat.count (Hit A e) n

/-- The flat position that fills slot `i` of expert `e`'s buffer; 16384 where no assignment does. -/
def slotOf (A : S16384.Idx → BitVec 32) (e : BitVec 32) (i : ℕ) : ℕ :=
  open Classical in if h : ∃ p, Hit A e p ∧ cnt A e p = i then h.choose else 16384

variable (A : S16384.Idx → BitVec 32) (e : BitVec 32)

theorem cnt_succ (n : ℕ) : cnt A e (n + 1) = cnt A e n + if Hit A e n then 1 else 0 := Nat.count_succ _ _
theorem cnt_zero : cnt A e 0 = 0 := Nat.count_zero _
theorem cnt_mono {m n : ℕ} (h : m ≤ n) : cnt A e m ≤ cnt A e n := Nat.count_monotone _ h
theorem cnt_le (n : ℕ) : cnt A e n ≤ n := Nat.count_le _
theorem cnt_total_le : cnt A e 16384 ≤ 16384 := cnt_le A e _
theorem cnt_lt {m n : ℕ} (hm : Hit A e m) (h : m < n) : cnt A e m < cnt A e n := Nat.count_strict_mono hm h
theorem cnt_inj {m n : ℕ} (hm : Hit A e m) (hn : Hit A e n) (h : cnt A e m = cnt A e n) : m = n := Nat.count_injective hm hn h

/-- Every slot below the count is filled by a hit whose rank is the slot. -/
theorem exists_hit {i n : ℕ} (h : i < cnt A e n) : ∃ p, p < n ∧ Hit A e p ∧ cnt A e p = i := by
  induction n with
  | zero => rw [cnt_zero] at h; omega
  | succ n ih =>
    rw [cnt_succ] at h
    by_cases hn : Hit A e n
    · rw [if_pos hn] at h
      by_cases hi : i < cnt A e n
      · obtain ⟨p, h1, h2, h3⟩ := ih hi
        exact ⟨p, by omega, h2, h3⟩
      · exact ⟨n, by omega, hn, by omega⟩
    · rw [if_neg hn] at h
      obtain ⟨p, h1, h2, h3⟩ := ih (by omega)
      exact ⟨p, by omega, h2, h3⟩

theorem slotOf_hit {p : ℕ} (hp : Hit A e p) : slotOf A e (cnt A e p) = p := by
  have h : ∃ q, Hit A e q ∧ cnt A e q = cnt A e p := ⟨p, hp, rfl⟩
  unfold slotOf
  rw [dif_pos h]
  exact cnt_inj A e h.choose_spec.1 hp h.choose_spec.2

theorem slotOf_of_le {i : ℕ} (h : cnt A e 16384 ≤ i) : slotOf A e i = 16384 := by
  unfold slotOf
  rw [dif_neg]
  rintro ⟨p, hp, rfl⟩
  have := cnt_lt A e hp hp.1
  omega

theorem slotOf_lt {i : ℕ} (h : i < cnt A e 16384) : slotOf A e i < 16384 := by
  obtain ⟨p, _, h2, rfl⟩ := exists_hit A e h
  rw [slotOf_hit A e h2]; exact h2.1

theorem slotOf_le (i : ℕ) : slotOf A e i ≤ 16384 := by
  by_cases h : i < cnt A e 16384
  · exact (slotOf_lt A e h).le
  · rw [slotOf_of_le A e (by omega)]

/-- What the slot list holds once the first `n` positions have been scanned. -/
def SrcAt (n : ℕ) (f : S16400.Idx → BitVec 32) : Prop :=
  ∀ y : S16400.Idx, ((y 0).val < cnt A e n → f y = BitVec.ofNat 32 (slotOf A e (y 0).val))
    ∧ (cnt A e n ≤ (y 0).val → (y 0).val < 576 → f y = 16384#32)

/-- After the whole scan the first 576 entries are the slots' positions. -/
theorem SrcAt.done {f : S16400.Idx → BitVec 32} (h : SrcAt A e 16384 f) (y : S16400.Idx) (hy : (y 0).val < 576) :
    f y = BitVec.ofNat 32 (slotOf A e (y 0).val) := by
  by_cases hc : (y 0).val < cnt A e 16384
  · exact (h y).1 hc
  · rw [(h y).2 (by omega) hy, slotOf_of_le A e (by omega)]

/-- One trip of the scan: the sixteen positions from `n` on, scattered by a mask, targets and values that are what the
    trip's lanes compute. -/
theorem SrcAt.step {F : FTy → Type} [FloatOps F] {n : ℕ} {f : S16400.Idx → BitVec 32} (h : SrcAt A e n f)
    (m : IVec S16 1) (t w : IVec S16 32) (ht : ∀ a x, ((![t] : Fin 1 → IVec S16 32) a x).toNat < S16400.size a)
    (hm : ∀ l : Fin 16, m (Shape.ofLane l) = 1 ↔ Hit A e (n + l.val))
    (htl : ∀ l : Fin 16, Hit A e (n + l.val) → (t (Shape.ofLane l)).toNat = cnt A e (n + l.val))
    (hw : ∀ l : Fin 16, w (Shape.ofLane l) = BitVec.ofNat 32 (n + l.val)) :
    SrcAt A e (n + 16) (storeIdx (F := F) (e := .i32) f ![t] w m false ht) := by
  intro y
  have hcm := cnt_mono A e (show n ≤ n + 16 by omega)
  by_cases hy : (y 0).val < cnt A e n
  · have hmiss := storeIdx_miss (F := F) (e := .i32) f ![t] w m ht y (fun k hk hall => by
      have h0 : (y 0).val = (t (Shape.ofLane k)).toNat := hall 0
      rw [htl k ((hm k).1 hk)] at h0
      have := cnt_mono A e (show n ≤ n + k.val by omega)
      omega)
    exact ⟨fun _ => hmiss.trans ((h y).1 hy), fun hge => absurd hy (by omega)⟩
  · refine ⟨fun hlt => ?_, fun hge h576 => ?_⟩
    · obtain ⟨p, h1, h2, h3⟩ := exists_hit A e hlt
      have hpn : n ≤ p := by
        by_contra hc
        have := cnt_lt A e h2 (show p < n by omega)
        omega
      obtain ⟨l, hl⟩ : ∃ l : Fin 16, p = n + l.val := ⟨⟨p - n, by omega⟩, by simp; omega⟩
      subst hl
      rw [storeIdx_hit (F := F) (e := .i32) f ![t] w m ht y l ((hm l).2 h2), hw, ← h3, slotOf_hit A e h2]
      · intro a; fin_cases a; exact (h3.symm.trans (htl l h2).symm)
      · intro k hk hall
        have h0 : (y 0).val = (t (Shape.ofLane k)).toNat := hall 0
        rw [htl k ((hm k).1 hk), ← h3] at h0
        have := cnt_inj A e h2 ((hm k).1 hk) h0
        exact Fin.ext (by omega)
    · have hmiss := storeIdx_miss (F := F) (e := .i32) f ![t] w m ht y (fun k hk hall => by
        have h0 : (y 0).val = (t (Shape.ofLane k)).toNat := hall 0
        rw [htl k ((hm k).1 hk)] at h0
        have := cnt_lt A e ((hm k).1 hk) (show n + k.val < n + 16 by have := k.isLt; change k.val < 16 at this; omega)
        omega)
      exact hmiss.trans ((h y).2 (by omega) h576)

/-! ## The lanes of one trip of the scan -/

/-- The trip's mask, targets and running sum, over the expert's word and the carried count. -/
def scanMask (eb : BitVec 32) (v : IVec S16 32) : IVec S16 1 := cmpi .eq v (broadcast S16 eb)
def scanSum (eb : BitVec 32) (v : IVec S16 32) : IVec S16 32 := scan .sum (extui 32 (scanMask eb v) natLt_1_32)
def scanTgt (eb acc : BitVec 32) (v : IVec S16 32) : IVec S16 32 :=
  maxsi (addi (broadcast S16 (Scalar.subi acc 1#32)) (scanSum eb v)) (broadcast S16 0#32)

theorem lane_val {l : Fin 16} : ((Shape.ofLane (d := ![16]) l : S16.Idx) 0).val = l.val := rfl

section TripLanes

variable {A e} {n : ℕ} {v : IVec S16 32} (hn : n + 16 ≤ 16384) (hv : ∀ l : Fin 16, v (Shape.ofLane l) = elemAt A (n + l.val))
include hn hv

theorem scanMask_lane (l : Fin 16) : scanMask e v (Shape.ofLane l) = 1 ↔ Hit A e (n + l.val) := by
  have h1 : scanMask e v (Shape.ofLane l) = BitVec.ofBool (v (Shape.ofLane l) == e) := rfl
  rw [h1, hv l]
  unfold Hit
  have : n + l.val < 16384 := by have := l.isLt; omega
  by_cases hq : elemAt A (n + l.val) = e
  · simp [hq, this]
  · rw [beq_eq_false_iff_ne.mpr hq]
    exact ⟨fun h => absurd h (by decide), fun h => absurd h.2 hq⟩

theorem scanSum_apply (x : S16.Idx) :
    scanSum e v x = BitVec.ofNat 32 (cnt A e (n + (x 0).val + 1)) - BitVec.ofNat 32 (cnt A e n) := by
  have := scan_sum_telescope (extui 32 (scanMask e v) natLt_1_32) (fun k => BitVec.ofNat 32 (cnt A e (n + k))) (fun l => by
    have h1 : extui 32 (scanMask e v) natLt_1_32 (Shape.ofLane l) = (scanMask e v (Shape.ofLane l)).setWidth 32 := rfl
    rw [h1, show n + (l.val + 1) = n + l.val + 1 from rfl, cnt_succ]
    by_cases hq : Hit A e (n + l.val)
    · rw [(scanMask_lane hn hv l).2 hq, if_pos hq, BitVec.ofNat_add]
      generalize BitVec.ofNat 32 (cnt A e (n + l.val)) = z
      show BitVec.setWidth 32 1#1 = z + 1#32 - z
      have : BitVec.setWidth 32 1#1 = 1#32 := by decide
      rw [this]; bv_omega
    · have h0 : scanMask e v (Shape.ofLane l) = 0#1 := by
        have hne : scanMask e v (Shape.ofLane l) ≠ 1 := fun h => hq ((scanMask_lane hn hv l).1 h)
        generalize scanMask e v (Shape.ofLane l) = b at hne
        have : b.toNat < 2 := b.isLt
        apply BitVec.eq_of_toNat_eq
        have hb : b.toNat ≠ 1 := fun h => hne (BitVec.eq_of_toNat_eq h)
        show b.toNat = 0
        omega
      rw [h0, if_neg hq, Nat.add_zero]
      show BitVec.setWidth 32 0#1 = _
      rw [BitVec.sub_self]; rfl) x
  exact this

theorem scanTgt_toNat {acc : BitVec 32} (hacc : acc = BitVec.ofNat 32 (cnt A e n)) (x : S16.Idx) :
    (scanTgt e acc v x).toNat = cnt A e (n + (x 0).val + 1) - 1 := by
  have hx : (x 0).val < 16 := (x 0).isLt
  have hle := cnt_le A e (n + (x 0).val + 1)
  have h1 : scanTgt e acc v x = IntOp.maxsi (acc - 1#32 + scanSum e v x) 0#32 := rfl
  rw [h1, scanSum_apply hn hv, hacc]
  have h2 : BitVec.ofNat 32 (cnt A e n) - 1#32 + (BitVec.ofNat 32 (cnt A e (n + (x 0).val + 1)) - BitVec.ofNat 32 (cnt A e n))
      = BitVec.ofNat 32 (cnt A e (n + (x 0).val + 1)) - 1#32 := by
    generalize BitVec.ofNat 32 (cnt A e n) = a
    generalize BitVec.ofNat 32 (cnt A e (n + (x 0).val + 1)) = b
    bv_omega
  rw [h2]
  generalize cnt A e (n + (x 0).val + 1) = c at hle
  unfold IntOp.maxsi
  rcases Nat.eq_zero_or_pos c with hc | hc
  · subst hc; decide
  · have h3 : BitVec.ofNat 32 c - 1#32 = BitVec.ofNat 32 (c - 1) := by
      apply BitVec.eq_of_toNat_eq; simp; omega
    rw [h3]
    have h4 : (BitVec.ofNat 32 (c - 1)).toInt = (c - 1 : ℕ) := by
      rw [BitVec.toInt_eq_toNat_of_lt] <;> simp <;> omega
    have h5 : (BitVec.ofNat 32 (c - 1)).toNat = c - 1 := by simp; omega
    split
    · exact h5
    · rename_i hs
      rw [BitVec.slt_iff_toInt_lt, h4] at hs
      have : (0#32).toInt = 0 := by decide
      rw [this] at hs
      have : c - 1 = 0 := by omega
      rw [this]; rfl

theorem scanTgt_inb {acc : BitVec 32} (hacc : acc = BitVec.ofNat 32 (cnt A e n)) :
    ∀ a x, ((![scanTgt e acc v] : Fin 1 → IVec S16 32) a x).toNat < S16400.size a := by
  intro a x
  fin_cases a
  show (scanTgt e acc v x).toNat < 16400
  rw [scanTgt_toNat hn hv hacc]
  have hx : (x 0).val < 16 := (x 0).isLt
  have hle := cnt_le A e (n + (x 0).val + 1)
  omega

/-- The scan's trip over its own lanes. -/
theorem scan_trip {F : FTy → Type} [FloatOps F] {acc : BitVec 32} (hacc : acc = BitVec.ofNat 32 (cnt A e n))
    {f : S16400.Idx → BitVec 32} (hf : SrcAt A e n f) (w : IVec S16 32)
    (hw : ∀ l : Fin 16, w (Shape.ofLane l) = BitVec.ofNat 32 (n + l.val))
    (ht : ∀ a x, ((![scanTgt e acc v] : Fin 1 → IVec S16 32) a x).toNat < S16400.size a) :
    SrcAt A e (n + 16) (storeIdx (F := F) (e := .i32) f ![scanTgt e acc v] w (scanMask e v) false ht)
      ∧ Scalar.addi acc (extractAt ![15] (scanSum e v) inpos_S16_p15) = BitVec.ofNat 32 (cnt A e (n + 16)) := by
  refine ⟨hf.step A e (F := F) _ _ _ ht (scanMask_lane hn hv) (fun l hl => ?_) hw, ?_⟩
  · rw [scanTgt_toNat hn hv hacc]
    show cnt A e (n + l.val + 1) - 1 = _
    rw [cnt_succ, if_pos hl]; omega
  · show acc + scanSum e v _ = _
    rw [scanSum_apply hn hv, hacc]
    show _ + (BitVec.ofNat 32 (cnt A e (n + 16)) - _) = _
    generalize BitVec.ofNat 32 (cnt A e n) = a
    generalize BitVec.ofNat 32 (cnt A e (n + 16)) = b
    bv_omega

end TripLanes

end Cert.Proof.Dispatch
-- ==== Proof.Meta.lean ====
/-
  What the metadata loop and the two list loops leave: the eight columns of sixteen slots' rows, scattered one column at
  a time under one mask; the slot list shifted right by one; the list of quarter-row numbers.
-/
module

public import proofs.«01_k».proof.Proof.Scan

@[expose] public section

noncomputable section

namespace Cert.Proof.Dispatch

open Idealize.ShloMosaic Cert.KernelIdeal Cert.KernelIdeal.Gen

variable {F : FTy → Type} [FloatOps F]

/-- A word read as a signed integer, as a float. -/
def fOf (b : BitVec 32) : F .f32 := (sitofp .f32 (broadcast S16 b) : FVec F S16 .f32) (Shape.ofLane (d := ![16]) (0 : Fin 16))

/-- Element `p` of a vector of 16384 elements, the index taken modulo its length. -/
def wAt {α : Type} (w : S16384.Idx → α) (p : ℕ) : α := w (Shape.ofLane (d := ![16384]) ⟨p % 16384, Nat.mod_lt _ (by decide)⟩)

/-- Column `c` of the metadata row of the slot whose flat position is the word `S`. -/
def metaVal (S e : BitVec 32) (wt : F .f32) : ℕ → F .f32
  | 0 => fOf (S >>> (12 : ℕ))
  | 1 => fOf ((S >>> (1 : ℕ)) &&& 2047#32)
  | 2 => fOf (S &&& 1#32)
  | 3 => fOf e
  | 4 => wt
  | _ => Scalar.ofBits .f32 0x00000000#32

/-- The word an unfilled row holds. -/
def unfilled : F .f32 := Scalar.ofBits .f32 0xBF800000#32

/-- Metadata after the rows below `n` and the first `c` columns of the sixteen rows from `n` on: rows `W` below `s`, the
    unfilled word everywhere else. -/
def MetaAt (W : ℕ → ℕ → F .f32) (s n c : ℕ) (g : S4096.Idx → F .f32) : Prop :=
  ∀ y : S4096.Idx, g y = if (y 0).val / 8 < s ∧ ((y 0).val / 8 < n ∨ (y 0).val / 8 < n + 16 ∧ (y 0).val % 8 < c)
    then W ((y 0).val / 8) ((y 0).val % 8) else unfilled

theorem MetaAt.start {W : ℕ → ℕ → F .f32} {s : ℕ} {g : S4096.Idx → F .f32} (h : ∀ y, g y = unfilled) : MetaAt W s 0 0 g := by
  intro y
  rw [h y, if_neg]
  rintro ⟨_, h | ⟨_, h⟩⟩ <;> omega

theorem MetaAt.next {W : ℕ → ℕ → F .f32} {s n : ℕ} {g : S4096.Idx → F .f32} (h : MetaAt W s n 8 g) : MetaAt W s (n + 16) 0 g := by
  intro y
  rw [h y]
  refine if_congr ?_ rfl rfl
  have := Nat.mod_lt (y 0).val (show 0 < 8 by decide)
  omega

/-- One column's scatter. -/
theorem MetaAt.col {W : ℕ → ℕ → F .f32} {s n c : ℕ} {g : S4096.Idx → F .f32} (h : MetaAt W s n c g) (hc : c < 8)
    (m : IVec S16 1) (t : IVec S16 32) (v : FVec F S16 .f32)
    (ht : ∀ a x, ((![t] : Fin 1 → IVec S16 32) a x).toNat < S4096.size a)
    (hm : ∀ l : Fin 16, m (Shape.ofLane l) = 1 ↔ n + l.val < s)
    (htl : ∀ l : Fin 16, (t (Shape.ofLane l)).toNat = (n + l.val) * 8 + c)
    (hv : ∀ l : Fin 16, n + l.val < s → v (Shape.ofLane l) = W (n + l.val) c) :
    MetaAt W s n (c + 1) (storeIdx (F := F) (e := .f32) g ![t] v m false ht) := by
  intro y
  by_cases hy : (y 0).val / 8 < s ∧ n ≤ (y 0).val / 8 ∧ (y 0).val / 8 < n + 16 ∧ (y 0).val % 8 = c
  · obtain ⟨l, hl⟩ : ∃ l : Fin 16, (y 0).val / 8 = n + l.val := ⟨⟨(y 0).val / 8 - n, by omega⟩, by simp; omega⟩
    have hyl : (y 0).val = (n + l.val) * 8 + c := by omega
    rw [storeIdx_hit (F := F) (e := .f32) g ![t] v m ht y l ((hm l).2 (by omega)), hv l (by omega), if_pos (by omega)]
    · rw [hl, hy.2.2.2]
    · intro a; fin_cases a; exact hyl.trans (htl l).symm
    · intro k _ hall
      have h0 : (y 0).val = (t (Shape.ofLane k)).toNat := hall 0
      rw [htl k] at h0
      exact Fin.ext (by omega)
  · rw [storeIdx_miss (F := F) (e := .f32) g ![t] v m ht y (fun k hk hall => by
      have h0 : (y 0).val = (t (Shape.ofLane k)).toNat := hall 0
      rw [htl k] at h0
      have := (hm k).1 hk
      have hk16 : k.val < 16 := k.isLt
      omega), h y]
    refine if_congr ?_ rfl rfl
    omega

/-! ## The lanes of a counter -/

/-- The sixteen consecutive numbers a trip works on, as the kernel computes them. -/
def laneNo (a : BitVec 32) : IVec S16 32 :=
  addi (broadcast S16 (Scalar.muli a 16#32)) (iota .scVector S16 32 [0] iota_S16_d0_w32_scVector)

theorem laneNo_toNat {a : BitVec 32} {k : ℕ} (ha : a.toNat = k) (hk : k < 4096) (x : S16.Idx) :
    (laneNo a x).toNat = 16 * k + (x 0).val := by
  have hx : (x 0).val < 16 := (x 0).isLt
  have h1 : laneNo a x = a * 16#32 + BitVec.ofNat 32 (x 0).val := by
    show a * 16#32 + iota .scVector S16 32 [0] iota_S16_d0_w32_scVector x = _
    congr 1
    simp [iota]
  rw [h1, BitVec.toNat_add, BitVec.toNat_mul, ha]
  simp
  omega

theorem laneNo_lane {a : BitVec 32} {k : ℕ} (ha : a.toNat = k) (hk : k < 4096) (l : Fin 16) :
    laneNo a (Shape.ofLane l) = BitVec.ofNat 32 (16 * k + l.val) := by
  apply BitVec.eq_of_toNat_eq
  rw [laneNo_toNat ha hk, lane_val]
  simp; omega

/-- The mask of the filled rows. -/
theorem fill_mask {a tot : BitVec 32} {k T : ℕ} (ha : a.toNat = k) (hk : k < 32) (hT : tot = BitVec.ofNat 32 T) (hT' : T ≤ 16384)
    (l : Fin 16) :
    cmpi .slt (laneNo a) (broadcast S16 (Scalar.minsi tot 512#32)) (Shape.ofLane l) = 1 ↔ 16 * k + l.val < min T 512 := by
  have h1 : cmpi .slt (laneNo a) (broadcast S16 (Scalar.minsi tot 512#32)) (Shape.ofLane l)
      = BitVec.ofBool ((laneNo a (Shape.ofLane l)).slt (Scalar.minsi tot 512#32)) := rfl
  have h2 : Scalar.minsi tot 512#32 = BitVec.ofNat 32 (min T 512) := by
    subst hT
    show IntOp.minsi _ _ = _
    unfold IntOp.minsi
    have h4 : (BitVec.ofNat 32 T).toInt = (T : ℤ) := by
      rw [BitVec.toInt_eq_toNat_of_lt] <;> simp <;> omega
    have h5 : (512#32).toInt = 512 := by decide
    split
    · rename_i hs
      rw [BitVec.slt_iff_toInt_lt, h4, h5] at hs
      rw [min_eq_left (by omega)]
    · rename_i hs
      rw [BitVec.slt_iff_toInt_lt, h4, h5] at hs
      rw [min_eq_right (by omega)]
  have hl : l.val < 16 := l.isLt
  rw [h1, h2, laneNo_lane ha (by omega)]
  have e1 : (BitVec.ofNat 32 (16 * k + l.val)).toInt = ((16 * k + l.val : ℕ) : ℤ) := by
    rw [BitVec.toInt_eq_toNat_of_lt] <;> simp <;> omega
  have e2 : (BitVec.ofNat 32 (min T 512)).toInt = ((min T 512 : ℕ) : ℤ) := by
    rw [BitVec.toInt_eq_toNat_of_lt] <;> simp <;> omega
  have e3 : ((BitVec.ofNat 32 (16 * k + l.val)).slt (BitVec.ofNat 32 (min T 512))) = decide (16 * k + l.val < min T 512) := by
    rw [Bool.eq_iff_iff, BitVec.slt_iff_toInt_lt, e1, e2, decide_eq_true_iff]
    omega
  rw [e3]
  by_cases hq : 16 * k + l.val < min T 512
  · simp [hq]
  · rw [decide_eq_false hq]
    exact ⟨fun h => absurd h (by decide), fun h => absurd h hq⟩

/-- The target of column `c` in each lane. -/
theorem colTgt {a cb : BitVec 32} {k c : ℕ} (ha : a.toNat = k) (hk : k < 32) (hcb : cb.toNat = c) (hc : c < 8) (x : S16.Idx) :
    (addi (muli (laneNo a) (broadcast S16 8#32)) (broadcast S16 cb) x).toNat = (16 * k + (x 0).val) * 8 + c := by
  have hx : (x 0).val < 16 := (x 0).isLt
  show (laneNo a x * 8#32 + cb).toNat = _
  rw [BitVec.toNat_add, BitVec.toNat_mul, laneNo_toNat ha (by omega), hcb]
  simp
  omega

/-- The quarter list's source index: slot `n / 4`. -/
theorem quarterIdx {a : BitVec 32} {k : ℕ} (ha : a.toNat = k) (hk : k < 128) (x : S16.Idx) :
    (shrui (laneNo a) (broadcast S16 2#32) x).toNat = (16 * k + (x 0).val) / 4 := by
  show (IntOp.shrui _ (laneNo a x) 2#32).toNat = _
  unfold IntOp.shrui
  rw [if_pos (by decide), BitVec.ushiftRight_eq', BitVec.toNat_ushiftRight, laneNo_toNat ha (by omega)]
  exact Nat.shiftRight_eq_div_pow _ 2

/-- Quarter row `n` of a slot list. -/
def quarterOf (Sl : ℕ → ℕ) (n : ℕ) : ℕ := 4 * (Sl (n / 4) / 2) + n % 4

theorem quarterVal {a : BitVec 32} {k : ℕ} (ha : a.toNat = k) (hk : k < 128) (Sl : ℕ → ℕ) (hS : ∀ i, Sl i ≤ 16384) (v : IVec S16 32)
    (x : S16.Idx) (hv : v x = BitVec.ofNat 32 (Sl ((16 * k + (x 0).val) / 4) / 2)) :
    addi (muli v (broadcast S16 4#32)) (andi (laneNo a) (broadcast S16 3#32)) x
      = BitVec.ofNat 32 (quarterOf Sl (16 * k + (x 0).val)) := by
  have hx : (x 0).val < 16 := (x 0).isLt
  show v x * 4#32 + (laneNo a x &&& 3#32) = _
  have hs := hS ((16 * k + (x 0).val) / 4)
  apply BitVec.eq_of_toNat_eq
  rw [BitVec.toNat_add, BitVec.toNat_mul, BitVec.toNat_and, laneNo_toNat ha (by omega), hv]
  have h3 : (3#32).toNat = 2 ^ 2 - 1 := rfl
  rw [h3, Nat.and_two_pow_sub_one_eq_mod]
  unfold quarterOf
  simp
  omega

theorem shiftVal (S : ℕ) (hS : S ≤ 16384) (v : IVec S16 32) (x : S16.Idx) (hv : v x = BitVec.ofNat 32 S) :
    shrui v (broadcast S16 1#32) x = BitVec.ofNat 32 (S / 2) := by
  show IntOp.shrui _ (v x) 1#32 = _
  unfold IntOp.shrui
  rw [if_pos (by decide), hv]
  apply BitVec.eq_of_toNat_eq
  rw [BitVec.ushiftRight_eq', BitVec.toNat_ushiftRight, show (1#32).toNat = 1 from rfl, Nat.shiftRight_eq_div_pow]
  simp
  omega

end Cert.Proof.Dispatch
-- ==== Proof.Setup.lean ====
/-
  The program as the launch theorem sees it, the buffers a vector subcore addresses, and the memory rules of the kernel's
  body at those buffers: each load and store of sixteen lanes, each indexed load and store, stated over the buffer's
  contents.
-/
module

public import proofs.«01_k».proof.Defs
public import proofs.«01_k».proof.Proof.Meta
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers of a vector subcore -/

abbrev aT : Memref sig .scVector .hbm S32800x2x128 .f32 := Memref.whole main_v5_scv
abbrev aI : Memref sig .scVector .hbm S16384 .i32 := Memref.whole main_v3_scv
abbrev aW : Memref sig .scVector .hbm S16384 .f32 := Memref.whole main_v4_scv
abbrev aD : Memref sig .scVector .hbm S131072x2x128 .f32 := Memref.whole main_v6_0_scv
abbrev aM : Memref sig .scVector .hbm S262144 .f32 := Memref.whole main_v6_1_scv
abbrev aC : Memref sig .scVector .hbm S1024 .i32 := Memref.whole main_v6_2_scv
abbrev bI : Memref sig .scVector .vmem S16384 .i32 := Memref.whole cc0_scratch0
abbrev bW : Memref sig .scVector .vmem S16384 .f32 := Memref.whole cc0_scratch1
abbrev bS : Memref sig .scVector .vmem S16400 .i32 := Memref.whole cc0_scratch2
abbrev bQ : Memref sig .scVector .vmem S2048 .i32 := Memref.whole cc0_scratch3
abbrev bX : Memref sig .scVector .vmem S128x2x128 .f32 := Memref.whole cc0_scratch4
abbrev bY : Memref sig .scVector .vmem S128x2x128 .f32 := Memref.whole cc0_scratch5
abbrev bM : Memref sig .scVector .vmem S4096 .f32 := Memref.whole cc0_scratch6
abbrev bC : Memref sig .scVector .vmem S16 .i32 := Memref.whole cc0_scratch7

abbrev cV (L : grid0.Coords) : Fin τ.nSC := (L 0).castLE hcore0
abbrev jV (L : grid0.Coords) : Fin τ.nSub := (L 1).castLE hsub0
/-- The vector subcore of device `d` at the grid's coordinates `L`. -/
abbrev VT (d : Dev nD) (L : grid0.Coords) : Thread nD τ := V d (cV L) (jV L)

abbrev tLoc (d : Dev nD) : Loc nD τ sig := (SparseCore.T d).loc main_v5
abbrev iLoc (d : Dev nD) : Loc nD τ sig := (SparseCore.T d).loc main_v3
abbrev wLoc (d : Dev nD) : Loc nD τ sig := (SparseCore.T d).loc main_v4
abbrev dLoc (d : Dev nD) : Loc nD τ sig := (SparseCore.T d).loc main_v6_0
abbrev mLoc (d : Dev nD) : Loc nD τ sig := (SparseCore.T d).loc main_v6_1
abbrev cLoc (d : Dev nD) : Loc nD τ sig := (SparseCore.T d).loc main_v6_2

/-- A program of a vector subcore's body. -/
abbrev Pg (F : FTy → Type) (L : grid0.Coords) (α : Type) : Type 1 :=
  Prog (TpuEff nD τ sig (Elt F) Λ₀ (.scVector ((L 0).castLE hcore0) ((L 1).castLE hsub0))) α

section Rules

variable [FloatOps F] (d : Dev nD) (L : grid0.Coords) {α : Type} {Q : α → sProp (MT nD τ sig (HIx 1) (Elt F) ℕ UU ℕ)}

/-- The weakest precondition of a body's program on its subcore. -/
abbrev W (p : Pg F L α) (Q : α → sProp 𝕄) : sProp 𝕄 := wp frame (wpE (defs₀ (F := F)) 𝒱₀ (VT d L) none) Set.univ p Q

abbrev sPts (f : S16400.Idx → BitVec 32) : sProp 𝕄 := (VT d L).loc cc0_scratch2 ↦{fullShare} (f : Buf (Elt F) ((VT d L).loc cc0_scratch2))
abbrev qPts (f : S2048.Idx → BitVec 32) : sProp 𝕄 := (VT d L).loc cc0_scratch3 ↦{fullShare} (f : Buf (Elt F) ((VT d L).loc cc0_scratch3))
abbrev iPts (f : S16384.Idx → BitVec 32) : sProp 𝕄 := (VT d L).loc cc0_scratch0 ↦{fullShare} (f : Buf (Elt F) ((VT d L).loc cc0_scratch0))
abbrev wPts (f : S16384.Idx → F .f32) : sProp 𝕄 := (VT d L).loc cc0_scratch1 ↦{fullShare} (f : Buf (Elt F) ((VT d L).loc cc0_scratch1))
abbrev mPts (f : S4096.Idx → F .f32) : sProp 𝕄 := (VT d L).loc cc0_scratch6 ↦{fullShare} (f : Buf (Elt F) ((VT d L).loc cc0_scratch6))
abbrev cPts (f : S16.Idx → BitVec 32) : sProp 𝕄 := (VT d L).loc cc0_scratch7 ↦{fullShare} (f : Buf (Elt F) ((VT d L).loc cc0_scratch7))

theorem load_src {r : Rect S16400} {hl} {k : (r.shape.Idx → Elt F .i32) → Pg F L α} (f : S16400.Idx → BitVec 32) :
    sPts d L f ⊢ iprop((sPts d L f -∗ W d L (k ((bS.access r).read (Elt F) f)) Q) -∗ W d L (.op (.load bS r.toLoadRect hl) k) Q) := by
  have h := wp_load_rect (defs := defs₀ (F := F)) (Γ := .empty) 𝒱₀ (VT d L) none Set.univ (m := bS) (r := r) (S := Finset.univ) (q := fullShare) (f := f) (Q := Q) (hl := hl) (k := k) (Finset.subset_univ _)
  exact h

theorem store_src {r : Rect S16400} {w : r.shape.Idx → Elt F .i32} {hx hm} {k : PUnit → Pg F L α} (f : S16400.Idx → BitVec 32) :
    sPts d L f ⊢ iprop((sPts d L ((bS.access r).write (Elt F) f w Finset.univ) -∗ W d L (k ⟨⟩) Q)
      -∗ W d L (.op (.store bS r w Finset.univ hx hm) k) Q) := by
  have h := wp_store (defs := defs₀ (F := F)) (Γ := .empty) 𝒱₀ (VT d L) none Set.univ (m := bS) (r := r) (S := Finset.univ) (f := f) (Q := Q) (w := w) (Mk := Finset.univ) (hx := hx) (hm := hm) (k := k) (Finset.subset_univ _)
  exact h

theorem load_quarter {r : Rect S2048} {hl} {k : (r.shape.Idx → Elt F .i32) → Pg F L α} (f : S2048.Idx → BitVec 32) :
    qPts d L f ⊢ iprop((qPts d L f -∗ W d L (k ((bQ.access r).read (Elt F) f)) Q) -∗ W d L (.op (.load bQ r.toLoadRect hl) k) Q) := by
  have h := wp_load_rect (defs := defs₀ (F := F)) (Γ := .empty) 𝒱₀ (VT d L) none Set.univ (m := bQ) (r := r) (S := Finset.univ) (q := fullShare) (f := f) (Q := Q) (hl := hl) (k := k) (Finset.subset_univ _)
  exact h

theorem store_quarter {r : Rect S2048} {w : r.shape.Idx → Elt F .i32} {hx hm} {k : PUnit → Pg F L α} (f : S2048.Idx → BitVec 32) :
    qPts d L f ⊢ iprop((qPts d L ((bQ.access r).write (Elt F) f w Finset.univ) -∗ W d L (k ⟨⟩) Q)
      -∗ W d L (.op (.store bQ r w Finset.univ hx hm) k) Q) := by
  have h := wp_store (defs := defs₀ (F := F)) (Γ := .empty) 𝒱₀ (VT d L) none Set.univ (m := bQ) (r := r) (S := Finset.univ) (f := f) (Q := Q) (w := w) (Mk := Finset.univ) (hx := hx) (hm := hm) (k := k) (Finset.subset_univ _)
  exact h

theorem load_meta {r : Rect S4096} {hl} {k : (r.shape.Idx → Elt F .f32) → Pg F L α} (f : S4096.Idx → F .f32) :
    mPts d L f ⊢ iprop((mPts d L f -∗ W d L (k ((bM.access r).read (Elt F) f)) Q) -∗ W d L (.op (.load bM r.toLoadRect hl) k) Q) := by
  have h := wp_load_rect (defs := defs₀ (F := F)) (Γ := .empty) 𝒱₀ (VT d L) none Set.univ (m := bM) (r := r) (S := Finset.univ) (q := fullShare) (f := f) (Q := Q) (hl := hl) (k := k) (Finset.subset_univ _)
  exact h

theorem store_meta {r : Rect S4096} {w : r.shape.Idx → Elt F .f32} {hx hm} {k : PUnit → Pg F L α} (f : S4096.Idx → F .f32) :
    mPts d L f ⊢ iprop((mPts d L ((bM.access r).write (Elt F) f w Finset.univ) -∗ W d L (k ⟨⟩) Q)
      -∗ W d L (.op (.store bM r w Finset.univ hx hm) k) Q) := by
  have h := wp_store (defs := defs₀ (F := F)) (Γ := .empty) 𝒱₀ (VT d L) none Set.univ (m := bM) (r := r) (S := Finset.univ) (f := f) (Q := Q) (w := w) (Mk := Finset.univ) (hx := hx) (hm := hm) (k := k) (Finset.subset_univ _)
  exact h

theorem load_idx {r : Rect S16384} {hl} {k : (r.shape.Idx → Elt F .i32) → Pg F L α} (f : S16384.Idx → BitVec 32) :
    iPts d L f ⊢ iprop((iPts d L f -∗ W d L (k ((bI.access r).read (Elt F) f)) Q) -∗ W d L (.op (.load bI r.toLoadRect hl) k) Q) := by
  have h := wp_load_rect (defs := defs₀ (F := F)) (Γ := .empty) 𝒱₀ (VT d L) none Set.univ (m := bI) (r := r) (S := Finset.univ) (q := fullShare) (f := f) (Q := Q) (hl := hl) (k := k) (Finset.subset_univ _)
  exact h

theorem load_cnt {r : Rect S16} {hl} {k : (r.shape.Idx → Elt F .i32) → Pg F L α} (f : S16.Idx → BitVec 32) :
    cPts d L f ⊢ iprop((cPts d L f -∗ W d L (k ((bC.access r).read (Elt F) f)) Q) -∗ W d L (.op (.load bC r.toLoadRect hl) k) Q) := by
  have h := wp_load_rect (defs := defs₀ (F := F)) (Γ := .empty) 𝒱₀ (VT d L) none Set.univ (m := bC) (r := r) (S := Finset.univ) (q := fullShare) (f := f) (Q := Q) (hl := hl) (k := k) (Finset.subset_univ _)
  exact h

theorem store_cnt {r : Rect S16} {w : r.shape.Idx → Elt F .i32} {hx hm} {k : PUnit → Pg F L α} (f : S16.Idx → BitVec 32) :
    cPts d L f ⊢ iprop((cPts d L ((bC.access r).write (Elt F) f w Finset.univ) -∗ W d L (k ⟨⟩) Q)
      -∗ W d L (.op (.store bC r w Finset.univ hx hm) k) Q) := by
  have h := wp_store (defs := defs₀ (F := F)) (Γ := .empty) 𝒱₀ (VT d L) none Set.univ (m := bC) (r := r) (S := Finset.univ) (f := f) (Q := Q) (w := w) (Mk := Finset.univ) (hx := hx) (hm := hm) (k := k) (Finset.subset_univ _)
  exact h

theorem gather_src {idxs : Fin S16400.rank → IVec S16 32} {h : ∀ a x, (idxs a x).toNat < S16400.size a} {hl}
    {k : Vec F S16 .i32 → Pg F L α} (f : S16400.Idx → BitVec 32) :
    sPts d L f ⊢ iprop((sPts d L f -∗ W d L (k (loadIdx (e := .i32) f idxs h)) Q) -∗ W d L (SparseCore.vectorLoadIdx bS idxs h hl >>= k) Q) := by
  have := SparseCore.wp_vectorLoadIdx (defs := defs₀ (F := F)) 𝒱₀ (VT d L) none Set.univ (base := bS) (idxs := idxs) (h := h) (hl := hl) (k := k)
    (S := Finset.univ) (q := fullShare) (f := f) (Q := Q) (Finset.subset_univ _)
  rw [show (bS.access (Rect.whole S16400)).read (Elt F) f = f from Memref.read_access_whole (Elt F) cc0_scratch2 f] at this
  exact this

theorem gather_wgt {idxs : Fin S16384.rank → IVec S16 32} {h : ∀ a x, (idxs a x).toNat < S16384.size a} {hl}
    {k : Vec F S16 .f32 → Pg F L α} (f : S16384.Idx → F .f32) :
    wPts d L f ⊢ iprop((wPts d L f -∗ W d L (k (loadIdx (e := .f32) f idxs h)) Q) -∗ W d L (SparseCore.vectorLoadIdx bW idxs h hl >>= k) Q) := by
  have := SparseCore.wp_vectorLoadIdx (defs := defs₀ (F := F)) 𝒱₀ (VT d L) none Set.univ (base := bW) (idxs := idxs) (h := h) (hl := hl) (k := k)
    (S := Finset.univ) (q := fullShare) (f := f) (Q := Q) (Finset.subset_univ _)
  rw [show (bW.access (Rect.whole S16384)).read (Elt F) f = f from Memref.read_access_whole (Elt F) cc0_scratch1 f] at this
  exact this

theorem scatter_src {idxs : Fin S16400.rank → IVec S16 32} {v : Vec F S16 .i32} {mask : IVec S16 1}
    {h : ∀ a x, (idxs a x).toNat < S16400.size a} {hs} {k : PUnit → Pg F L α} (f : S16400.Idx → BitVec 32) :
    sPts d L f ⊢ iprop((sPts d L (storeIdx (F := F) (e := .i32) f idxs v mask false h) -∗ W d L (k ⟨⟩) Q)
      -∗ W d L (SparseCore.vectorStoreIdx bS idxs v mask false h hs >>= k) Q) := by
  have := SparseCore.wp_vectorStoreIdx (defs := defs₀ (F := F)) 𝒱₀ (VT d L) none Set.univ (base := bS) (idxs := idxs) (v := v) (mask := mask) (add := false)
    (h := h) (hs := hs) (k := k) (f := f) (Q := Q)
  rw [show (bS.access (Rect.whole S16400)).set = Finset.univ from Memref.set_access_whole cc0_scratch2,
    show ∀ w, (bS.access (Rect.whole S16400)).write (Elt F) f w Finset.univ = w from Memref.write_access_whole_univ (Elt F) cc0_scratch2 f,
    show (bS.access (Rect.whole S16400)).read (Elt F) f = f from Memref.read_access_whole (Elt F) cc0_scratch2 f] at this
  exact this

theorem scatter_meta {idxs : Fin S4096.rank → IVec S16 32} {v : Vec F S16 .f32} {mask : IVec S16 1}
    {h : ∀ a x, (idxs a x).toNat < S4096.size a} {hs} {k : PUnit → Pg F L α} (f : S4096.Idx → F .f32) :
    mPts d L f ⊢ iprop((mPts d L (storeIdx (F := F) (e := .f32) f idxs v mask false h) -∗ W d L (k ⟨⟩) Q)
      -∗ W d L (SparseCore.vectorStoreIdx bM idxs v mask false h hs >>= k) Q) := by
  have := SparseCore.wp_vectorStoreIdx (defs := defs₀ (F := F)) 𝒱₀ (VT d L) none Set.univ (base := bM) (idxs := idxs) (v := v) (mask := mask) (add := false)
    (h := h) (hs := hs) (k := k) (f := f) (Q := Q)
  rw [show (bM.access (Rect.whole S4096)).set = Finset.univ from Memref.set_access_whole cc0_scratch6,
    show ∀ w, (bM.access (Rect.whole S4096)).write (Elt F) f w Finset.univ = w from Memref.write_access_whole_univ (Elt F) cc0_scratch6 f,
    show (bM.access (Rect.whole S4096)).read (Elt F) f = f from Memref.read_access_whole (Elt F) cc0_scratch6 f] at this
  exact this

end Rules

/-! ## Sixteen lanes of a buffer -/

section Lanes

variable {κ : Kind} (Val : EltTy → Type)

/-- What a load of a rectangle of a whole buffer reads. -/
theorem read_at (b : Ref sig κ) (r : Rect b.ty.shape) (f : b.ty.Contents Val) (x : r.shape.Idx) :
    ((Memref.whole b : Memref sig κ _ _ _).access r).read Val f x = f (r.emb x) := rfl

/-- What a store over a unit-stride rectangle of a whole buffer leaves. -/
theorem write_at (b : Ref sig κ) {off off' size : Fin b.ty.shape.rank → ℕ} (inb : ∀ a, off a + size a ≤ b.ty.shape.size a) (f : b.ty.Contents Val)
    (w : (Rect.unit off size inb).shape.Idx → Val b.ty.elt) (y : b.ty.shape.Idx) (heq : off = off') :
    ((Memref.whole b : Memref sig κ _ _ _).access (Rect.unit off size inb)).write Val f w Finset.univ y
      = if h : ∀ a, off' a ≤ (y a).val ∧ (y a).val < off' a + size a then w (Rect.unitLocal (off := off') (size := size) y h) else f y :=
  View.read_writes_cons_unit (View.whole b) f inb w [] y heq

end Lanes

end Cert.Proof.Dispatch

end
-- ==== Proof.Loops.lean ====
/-
  The counted loops one expert's work is made of, each as a rule over the contents of the buffer it fills: the slot list
  set to the sentinel, the scan of the assignments, the metadata set to the unfilled word and then filled eight columns to
  a row, the positions halved to token rows, and the list of quarter rows the gathers read.
-/
module

public import proofs.«01_k».proof.Proof.Setup
public import Idealize.ShloMosaic.Lib.WordArith.Masks

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Sixteen lanes at a computed offset -/

theorem idx1_ext {N : ℕ} (x y : (⟨1, ![N]⟩ : Shape).Idx) (h : (x 0).val = (y 0).val) : x = y := by
  funext a
  fin_cases a
  exact Fin.ext h

/-- Lane `m - n` of the sixteen from `n` on. -/
def lane (n m : ℕ) (h : n ≤ m) (h' : m < n + 16) : S16.Idx := Shape.ofLane (d := ![16]) (⟨m - n, by omega⟩ : Fin 16)

theorem src_read {off : Fin 1 → ℕ} {n : ℕ} (heq : off = ![n]) (inb : ∀ a, off a + S16.size a ≤ S16400.size a) (f : S16400.Idx → BitVec 32)
    (x : (Rect.unit (s := S16400) off S16.size inb).shape.Idx) (y : S16400.Idx) (hy : (y 0).val = n + (x 0).val) :
    (bS.access (Rect.unit (s := S16400) off S16.size inb)).read (Elt F) f x = f y := by
  subst heq
  refine (read_at (Elt F) cc0_scratch2 (Rect.unit (s := S16400) _ S16.size inb) f x).trans (congrArg f (idx1_ext _ _ ?_))
  show n + 1 * (x 0).val = _
  omega

theorem src_write {off : Fin 1 → ℕ} {n : ℕ} (heq : off = ![n]) (inb : ∀ a, off a + S16.size a ≤ S16400.size a) (f : S16400.Idx → BitVec 32)
    (w : S16.Idx → BitVec 32) (y : S16400.Idx) :
    (bS.access (Rect.unit (s := S16400) off S16.size inb)).write (Elt F) f w Finset.univ y
      = if h : n ≤ (y 0).val ∧ (y 0).val < n + 16 then w (lane n (y 0).val h.1 h.2) else f y := by
  refine (write_at (Elt F) cc0_scratch2 inb f w y heq).trans ?_
  by_cases h : n ≤ (y 0).val ∧ (y 0).val < n + 16
  · rw [dif_pos h, dif_pos (fun a => by fin_cases a; exact h)]
    exact congrArg w (idx1_ext (N := 16) _ _ rfl)
  · rw [dif_neg h, dif_neg (fun h' => h (h' 0))]

theorem quarter_write {off : Fin 1 → ℕ} {n : ℕ} (heq : off = ![n]) (inb : ∀ a, off a + S16.size a ≤ S2048.size a) (f : S2048.Idx → BitVec 32)
    (w : S16.Idx → BitVec 32) (y : S2048.Idx) :
    (bQ.access (Rect.unit (s := S2048) off S16.size inb)).write (Elt F) f w Finset.univ y
      = if h : n ≤ (y 0).val ∧ (y 0).val < n + 16 then w (lane n (y 0).val h.1 h.2) else f y := by
  refine (write_at (Elt F) cc0_scratch3 inb f w y heq).trans ?_
  by_cases h : n ≤ (y 0).val ∧ (y 0).val < n + 16
  · rw [dif_pos h, dif_pos (fun a => by fin_cases a; exact h)]
    exact congrArg w (idx1_ext (N := 16) _ _ rfl)
  · rw [dif_neg h, dif_neg (fun h' => h (h' 0))]

theorem meta_write {off : Fin 1 → ℕ} {n : ℕ} (heq : off = ![n]) (inb : ∀ a, off a + S16.size a ≤ S4096.size a) (f : S4096.Idx → F .f32)
    (w : S16.Idx → F .f32) (y : S4096.Idx) :
    (bM.access (Rect.unit (s := S4096) off S16.size inb)).write (Elt F) f w Finset.univ y
      = if h : n ≤ (y 0).val ∧ (y 0).val < n + 16 then w (lane n (y 0).val h.1 h.2) else f y := by
  refine (write_at (Elt F) cc0_scratch6 inb f w y heq).trans ?_
  by_cases h : n ≤ (y 0).val ∧ (y 0).val < n + 16
  · rw [dif_pos h, dif_pos (fun a => by fin_cases a; exact h)]
    exact congrArg w (idx1_ext (N := 16) _ _ rfl)
  · rw [dif_neg h, dif_neg (fun h' => h (h' 0))]

theorem idx_read {off : Fin 1 → ℕ} {n : ℕ} (heq : off = ![n]) (inb : ∀ a, off a + S16.size a ≤ S16384.size a) (A : S16384.Idx → BitVec 32)
    (l : Fin 16) : (bI.access (Rect.unit (s := S16384) off S16.size inb)).read (Elt F) A (Shape.ofLane (d := ![16]) l) = elemAt A (n + l.val) := by
  subst heq
  have hb : n + 16 ≤ 16384 := inb 0
  have hl := l.isLt
  unfold elemAt
  rw [dif_pos (show n + l.val < 16384 by omega)]
  refine (read_at (Elt F) cc0_scratch0 (Rect.unit (s := S16384) _ S16.size inb) A _).trans (congrArg A (idx1_ext _ _ ?_))
  show n + 1 * l.val = n + l.val
  omega

section Loops

variable [FloatOps F] (d : Dev nD) (L : grid0.Coords) {α : Type} {Q : α → sProp (MT nD τ sig (HIx 1) (Elt F) ℕ UU ℕ)}

/-! ## The fills -/

/-- The slot list's first 576 entries set to the sentinel position. -/
theorem fill_src (f : S16400.Idx → BitVec 32) {kk : BitVec 32 → Pg F L α} :
    sPts (F := F) d L f ⊢ iprop((∀ acc (g : S16400.Idx → BitVec 32), ⌜∀ y, (y 0).val < 576 → g y = 16384#32⌝ -∗ sPts (F := F) d L g -∗ W d L (kk acc) Q)
      -∗ W d L (Scf.Loop.for k0_t1_loop k0_t1_ok 0#32 (k0_t1_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5) >>= kk) Q) := by
  iintro Hs Hk
  iapply (Scf.wp_for_bind frame (wpE (defs₀ (F := F)) 𝒱₀ (VT d L) none) Set.univ k0_t1_loop.lb k0_t1_loop.ub k0_t1_loop.st k0_t1_ok 0#32
    (k0_t1_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5)
    (fun k _ => iprop(∃ g : S16400.Idx → BitVec 32, ⌜∀ y, (y 0).val < 16 * k → g y = 16384#32⌝ ∗ sPts (F := F) d L g)) ?_) $$ [Hs]
  · intro k acc
    iintro ⟨%g, %hg, Hs⟩
    unfold k0_t1_body
    simp only [Prog.lift, Prog.bind_op, Prog.bind_ret]
    iapply (load_src (F := F) d L g) $$ Hs
    iintro Hs
    iapply (store_src (F := F) d L g) $$ Hs
    iintro Hs
    rw [Prog.pure_eq_ret]; unfold W; rw [wp_ret]
    imodintro
    iexists _
    isplitr
    swap
    · iexact Hs
    · ipureintro
      intro y hy
      rw [src_write (F := F) (k0_off1_eq k)]
      split
      · rfl
      · exact hg y (by omega)
  · iexists f
    isplitr
    · ipureintro; intro y hy; omega
    · iexact Hs
  · iintro %acc ⟨%g, %hg, Hs⟩
    iapply Hk $$ %acc %g [] [Hs]
    · ipureintro; exact hg
    · iexact Hs

/-- The metadata buffer set to the unfilled word. -/
theorem fill_meta (f : S4096.Idx → F .f32) {kk : BitVec 32 → Pg F L α} :
    mPts (F := F) d L f ⊢ iprop((∀ acc (g : S4096.Idx → F .f32), ⌜∀ y, g y = unfilled⌝ -∗ mPts (F := F) d L g -∗ W d L (kk acc) Q)
      -∗ W d L (Scf.Loop.for k0_t3_loop k0_t3_ok 0#32 (k0_t3_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5) >>= kk) Q) := by
  iintro Hs Hk
  iapply (Scf.wp_for_bind frame (wpE (defs₀ (F := F)) 𝒱₀ (VT d L) none) Set.univ k0_t3_loop.lb k0_t3_loop.ub k0_t3_loop.st k0_t3_ok 0#32
    (k0_t3_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5)
    (fun k _ => iprop(∃ g : S4096.Idx → F .f32, ⌜∀ y, (y 0).val < 16 * k → g y = unfilled⌝ ∗ mPts (F := F) d L g)) ?_) $$ [Hs]
  · intro k acc
    iintro ⟨%g, %hg, Hs⟩
    unfold k0_t3_body
    simp only [Prog.lift, Prog.bind_op, Prog.bind_ret]
    iapply (load_meta (F := F) d L g) $$ Hs
    iintro Hs
    iapply (store_meta (F := F) d L g) $$ Hs
    iintro Hs
    rw [Prog.pure_eq_ret]; unfold W; rw [wp_ret]
    imodintro
    iexists _
    isplitr
    swap
    · iexact Hs
    · ipureintro
      intro y hy
      rw [meta_write (F := F) (k0_off3_eq k)]
      split
      · rfl
      · exact hg y (by omega)
  · iexists f
    isplitr
    · ipureintro; intro y hy; omega
    · iexact Hs
  · iintro %acc ⟨%g, %hg, Hs⟩
    iapply Hk $$ %acc %g [] [Hs]
    · ipureintro; exact fun y => hg y (y 0).isLt
    · iexact Hs

/-! ## The scan -/

/-- One trip of the scan for the expert word `eb`. -/
def scanBody (eb : BitVec 32) : Fin k0_t2_loop.trips → BitVec 32 → Pg F L (BitVec 32) :=
  fun t acc => do
    let v : Vec F S16 .i32 ← Prog.lift (.load bI (Rect.unit (s := S16384) (k0_off2 t) S16.size (k0_off2_inb t)).toLoadRect (View.loadsAt_vmem h_S16))
    have hw : k0_chk1 (scanTgt eb acc v) := (← Prog.lift (TpuEff.assume (k0_chk1 (scanTgt eb acc v)) (k0_chk1.dec (scanTgt eb acc v)))).down
    SparseCore.vectorStoreIdx bS ![scanTgt eb acc v] (laneNo (Scf.iv 0#32 1#32 t)) (scanMask eb v) false (k0_idx1_inb (scanTgt eb acc v) hw)
      (View.stores_vmem_bits_univ h_S16400 rfl)
    pure (Scalar.addi acc (extractAt ![15] (scanSum eb v) inpos_S16_p15))

theorem scan_src (A : S16384.Idx → BitVec 32) (eb : BitVec 32) (f : S16400.Idx → BitVec 32) (hf : ∀ y, (y 0).val < 576 → f y = 16384#32)
    {kk : BitVec 32 → Pg F L α} :
    iprop(iPts (F := F) d L A ∗ sPts (F := F) d L f)
      ⊢ iprop((∀ (g : S16400.Idx → BitVec 32), ⌜SrcAt A eb 16384 g⌝ -∗ iPts (F := F) d L A -∗ sPts (F := F) d L g
          -∗ W d L (kk (BitVec.ofNat 32 (cnt A eb 16384))) Q)
      -∗ W d L (Scf.Loop.for k0_t2_loop k0_t2_ok 0#32 (scanBody (F := F) L eb) >>= kk) Q) := by
  iintro ⟨Hi, Hs⟩ Hk
  iapply (Scf.wp_for_bind frame (wpE (defs₀ (F := F)) 𝒱₀ (VT d L) none) Set.univ k0_t2_loop.lb k0_t2_loop.ub k0_t2_loop.st k0_t2_ok 0#32
    (scanBody (F := F) L eb)
    (fun k acc => iprop(∃ g : S16400.Idx → BitVec 32, ⌜SrcAt A eb (16 * k) g ∧ acc = BitVec.ofNat 32 (cnt A eb (16 * k))⌝
      ∗ iPts (F := F) d L A ∗ sPts (F := F) d L g)) ?_) $$ [Hi Hs]
  · intro k acc
    iintro ⟨%g, %hg, Hi, Hs⟩
    obtain ⟨hg, hacc⟩ := hg
    have hk : k.val < 1024 := lt_of_lt_of_le k.isLt k0_t2_abs.2.1
    have hiv : (Scf.iv 0#32 1#32 k).toNat = k.val := WordArith.toNat_iv_zero_one _ (by omega)
    unfold scanBody
    simp only [Prog.lift, Prog.bind_op, Prog.bind_ret]
    iapply (load_idx (F := F) d L A) $$ Hi
    iintro Hi
    have hv := idx_read (F := F) (k0_off2_eq k) (k0_off2_inb k) A
    unfold W
    rw [wp_assume_of _ _ _ _ (show k0_chk1 _ from scanTgt_inb (by omega) hv hacc)]
    iapply (scatter_src (F := F) d L g) $$ Hs
    iintro Hs
    rw [Prog.pure_eq_ret]; unfold W; rw [wp_ret]
    imodintro
    iexists _
    isplitr
    · ipureintro
      have := scan_trip (F := F) (by omega) hv hacc hg (laneNo (Scf.iv 0#32 1#32 k)) (fun l => laneNo_lane hiv (by omega) l)
        (scanTgt_inb (by omega) hv hacc)
      exact this
    · isplitl [Hi]
      · iexact Hi
      · iexact Hs
  · iexists f
    isplitr
    · ipureintro
      refine ⟨fun y => ⟨fun h => ?_, fun _ h => hf y h⟩, ?_⟩
      · rw [show 16 * 0 = 0 from rfl, cnt_zero] at h; omega
      · rw [show 16 * 0 = 0 from rfl, cnt_zero]
    · isplitl [Hi]
      · iexact Hi
      · iexact Hs
  · iintro %acc ⟨%g, %hg, Hi, Hs⟩
    obtain ⟨hg, hacc⟩ := hg
    subst hacc
    iapply Hk $$ %g [] [Hi] [Hs]
    · ipureintro; exact hg
    · iexact Hi
    · iexact Hs

/-! ## The token rows and the quarter rows -/

/-- The first 512 slots' positions halved to token rows. -/
theorem shift_src (Sl : ℕ → ℕ) (hS : ∀ i, Sl i ≤ 16384) (v2 : IVec S16 32) (v4 : BitVec 32)
    (f : S16400.Idx → BitVec 32) (hf : ∀ y, (y 0).val < 576 → f y = BitVec.ofNat 32 (Sl (y 0).val)) {kk : BitVec 32 → Pg F L α} :
    sPts (F := F) d L f ⊢ iprop((∀ acc (g : S16400.Idx → BitVec 32), ⌜∀ y, (y 0).val < 512 → g y = BitVec.ofNat 32 (Sl (y 0).val / 2)⌝ -∗ sPts (F := F) d L g -∗ W d L (kk acc) Q)
      -∗ W d L (Scf.Loop.for k0_t5_loop k0_t5_ok 0#32 (k0_t5_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 v2 v4 k0_pay39) >>= kk) Q) := by
  iintro Hs Hk
  iapply (Scf.wp_for_bind frame (wpE (defs₀ (F := F)) 𝒱₀ (VT d L) none) Set.univ k0_t5_loop.lb k0_t5_loop.ub k0_t5_loop.st k0_t5_ok 0#32
    (k0_t5_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 v2 v4 k0_pay39)
    (fun k _ => iprop(∃ g : S16400.Idx → BitVec 32, ⌜∀ y, (y 0).val < 576 → g y = BitVec.ofNat 32 (if (y 0).val < 16 * k then Sl (y 0).val / 2 else Sl (y 0).val)⌝ ∗ sPts (F := F) d L g)) ?_) $$ [Hs]
  · intro k acc
    iintro ⟨%g, %hg, Hs⟩
    have hk : k.val < 32 := lt_of_lt_of_le k.isLt k0_t5_abs.2.1
    unfold k0_t5_body
    simp only [Prog.lift, Prog.bind_op, Prog.bind_ret]
    iapply (load_src (F := F) d L g) $$ Hs
    iintro Hs
    iapply (load_src (F := F) d L g) $$ Hs
    iintro Hs
    iapply (store_src (F := F) d L g) $$ Hs
    iintro Hs
    rw [Prog.pure_eq_ret]; unfold W; rw [wp_ret]
    imodintro
    iexists _
    isplitr
    swap
    · iexact Hs
    · ipureintro
      intro y hy
      rw [src_write (F := F) (k0_off6_eq k)]
      split
      · next h =>
        rw [if_pos (by omega)]
        refine shiftVal _ (hS _) _ _ ?_
        rw [src_read (F := F) (k0_off6_eq k) _ g _ y (by show _ = 16 * k.val + ((y 0).val - 16 * k.val); omega), hg y hy, if_neg (by omega)]
      · next h =>
        rw [hg y hy]
        congr 1
        exact if_congr (by omega) rfl rfl
  · iexists f
    isplitr
    · ipureintro; intro y hy; rw [if_neg (by omega)]; exact hf y hy
    · iexact Hs
  · iintro %acc ⟨%g, %hg, Hs⟩
    iapply Hk $$ %acc %g [] [Hs]
    · ipureintro
      intro y hy
      rw [hg y (by omega)]
      exact congrArg (BitVec.ofNat 32) (if_pos hy)
    · iexact Hs

/-- The list of quarter rows: each of the 512 token rows names its four. -/
theorem list_quarters (Sl : ℕ → ℕ) (hS : ∀ i, Sl i ≤ 16384) (v4 : BitVec 32) (v20 : IVec S16 32)
    (g : S16400.Idx → BitVec 32) (hg : ∀ y, (y 0).val < 512 → g y = BitVec.ofNat 32 (Sl (y 0).val / 2)) (f : S2048.Idx → BitVec 32) {kk : BitVec 32 → Pg F L α} :
    iprop(sPts (F := F) d L g ∗ qPts (F := F) d L f)
      ⊢ iprop((∀ acc (q : S2048.Idx → BitVec 32), ⌜∀ y, q y = BitVec.ofNat 32 (quarterOf Sl (y 0).val)⌝ -∗ sPts (F := F) d L g -∗ qPts (F := F) d L q -∗ W d L (kk acc) Q)
      -∗ W d L (Scf.Loop.for k0_t6_loop k0_t6_ok 0#32 (k0_t6_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 (iota .scVector S16 32 [0] iota_S16_d0_w32_scVector) v4 v20) >>= kk) Q) := by
  iintro ⟨Hs, Hq⟩ Hk
  iapply (Scf.wp_for_bind frame (wpE (defs₀ (F := F)) 𝒱₀ (VT d L) none) Set.univ k0_t6_loop.lb k0_t6_loop.ub k0_t6_loop.st k0_t6_ok 0#32
    (k0_t6_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 (iota .scVector S16 32 [0] iota_S16_d0_w32_scVector) v4 v20)
    (fun k _ => iprop(∃ q : S2048.Idx → BitVec 32, ⌜∀ y, (y 0).val < 16 * k → q y = BitVec.ofNat 32 (quarterOf Sl (y 0).val)⌝
      ∗ sPts (F := F) d L g ∗ qPts (F := F) d L q)) ?_) $$ [Hs Hq]
  · intro k acc
    iintro ⟨%q, %hq, Hs, Hq⟩
    have hk : k.val < 128 := lt_of_lt_of_le k.isLt k0_t6_abs.2.1
    have hiv : (Scf.iv 0#32 1#32 k).toNat = k.val := WordArith.toNat_iv_zero_one _ (by omega)
    have hix : ∀ x : S16.Idx, (k0_pay42 (iota .scVector S16 32 [0] iota_S16_d0_w32_scVector) k x).toNat = (16 * k.val + (x 0).val) / 4 := quarterIdx hiv hk
    have hin : ∀ a x, ((![k0_pay42 (iota .scVector S16 32 [0] iota_S16_d0_w32_scVector) k] : Fin 1 → IVec S16 32) a x).toNat < S16400.size a := by
      intro a x
      fin_cases a
      have hx : (x 0).val < 16 := (x 0).isLt
      show (k0_pay42 _ k x).toNat < 16400
      rw [hix]; omega
    unfold k0_t6_body
    simp only [Prog.lift, Prog.bind_op, Prog.bind_ret]
    rw [wp_assume_of _ _ _ _ (show k0_chk11 _ from hin)]
    iapply (gather_src (F := F) d L g) $$ Hs
    iintro Hs
    iapply (load_quarter (F := F) d L q) $$ Hq
    iintro Hq
    iapply (store_quarter (F := F) d L q) $$ Hq
    iintro Hq
    rw [Prog.pure_eq_ret]; unfold W; rw [wp_ret]
    imodintro
    iexists _
    isplitr
    swap
    · isplitl [Hs]
      · iexact Hs
      · iexact Hq
    · ipureintro
      intro y hy
      rw [quarter_write (F := F) (k0_off7_eq k)]
      split
      · next h =>
        have hy' : 16 * k.val + (lane (16 * k.val) (y 0).val h.1 h.2 0).val = (y 0).val := by
          show 16 * k.val + ((y 0).val - 16 * k.val) = _; omega
        have := quarterVal hiv hk Sl hS (loadIdx (F := F) (e := .i32) g ![k0_pay42 (iota .scVector S16 32 [0] iota_S16_d0_w32_scVector) k] hin) (lane (16 * k.val) (y 0).val h.1 h.2) ?_
        · rw [hy'] at this
          exact this
        · rw [← hix]
          exact hg _ (by show (k0_pay42 _ k _).toNat < 512; rw [hix]; omega)
      · next h => exact hq y (by omega)
  · iexists f
    isplitr
    · ipureintro; intro y hy; omega
    · isplitl [Hs]
      · iexact Hs
      · iexact Hq
  · iintro %acc ⟨%q, %hq, Hs, Hq⟩
    iapply Hk $$ %acc %q [] [Hs] [Hq]
    · ipureintro; exact fun y => hq y (y 0).isLt
    · iexact Hs
    · iexact Hq

/-! ## The metadata columns -/

/-- One trip of the metadata fill: sixteen rows' eight columns, for the row bound `v13` and the expert column `v15`. -/
def metaBody (v2 v13 : IVec S16 32) (v15 : FVec F S16 .f32) : Fin k0_t4_loop.trips → BitVec 32 → Pg F L (BitVec 32) :=
  fun t _ => do
    let ⟨v408, v422, v424, v438⟩ : Σ' (v408 : IVec S16 1) (v422 : FVec F S16 .f32) (v424 : IVec S16 32), IVec S16 32 ← k0_part1 (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 v2 v13 v15 0#32 1#32 t
    have h9 : k0_chk9 v438 := (← Prog.lift (TpuEff.assume (k0_chk9 v438) (k0_chk9.dec v438))).down
    SparseCore.vectorStoreIdx bM ![v438] v422 v408 false (k0_idx9_inb v438 h9) (View.stores_vmem_bits_univ h_S4096 rfl)
    have h10 : k0_chk10 (k0_pay38 v424) := (← Prog.lift (TpuEff.assume (k0_chk10 (k0_pay38 v424)) (k0_chk10.dec (k0_pay38 v424)))).down
    SparseCore.vectorStoreIdx bM ![k0_pay38 v424] v422 v408 false (k0_idx10_inb (k0_pay38 v424) h10) (View.stores_vmem_bits_univ h_S4096 rfl)
    pure 0#32

/-- A column's targets are inside the metadata buffer. -/
theorem meta_inb {k c : ℕ} {t : IVec S16 32} (hk : k < 32) (hc : c < 8) (h : ∀ x : S16.Idx, (t x).toNat = (16 * k + (x 0).val) * 8 + c) :
    ∀ a x, ((![t] : Fin 1 → IVec S16 32) a x).toNat < S4096.size a := by
  intro a x
  fin_cases a
  have hx : (x 0).val < 16 := (x 0).isLt
  show (t x).toNat < 4096
  rw [h]; omega

theorem assume_step {P : Prop} {dP : Decidable P} {k : PLift P → Pg F L α} (h : P) :
    W d L (k ⟨h⟩) Q ⊢ W d L (.op (.assume P dP) k) Q := by
  have := wp_assume (defs := defs₀ (F := F)) (Γ := .empty) 𝒱₀ (VT d L) none Set.univ (Q := Q) (d := dP) (k := k) h
  exact this

theorem sitofp_lane (v : IVec S16 32) (x : S16.Idx) : (sitofp .f32 v : FVec F S16 .f32) x = fOf (v x) := rfl

theorem shr_lane (v : IVec S16 32) (c : BitVec 32) (hc : c.toNat < 32) (x : S16.Idx) : shrui v (broadcast S16 c) x = v x >>> c.toNat := by
  show IntOp.shrui _ (v x) c = _
  unfold IntOp.shrui
  rw [if_pos hc]
  rfl

theorem place_lane (v : Vec F S16 .i32) (S : BitVec 32) (l : Fin 16) (h : v (Shape.ofLane (d := ![16]) l) = S) :
    k0_pay7 (F := F) v (Shape.ofLane l) = fOf (S >>> (12 : ℕ)) ∧ k0_pay8 (F := F) v (Shape.ofLane l) = fOf ((S >>> (1 : ℕ)) &&& 2047#32)
      ∧ k0_pay10 (F := F) v (Shape.ofLane l) = fOf (S &&& 1#32) := by
  subst h
  refine ⟨?_, ?_, ?_⟩
  · exact (sitofp_lane _ _).trans (congrArg fOf (shr_lane v 12#32 (by decide) _))
  · exact (sitofp_lane _ _).trans (congrArg (fun z => fOf (z &&& 2047#32)) (shr_lane v 1#32 (by decide) _))
  · exact sitofp_lane (andi v (broadcast S16 1#32)) _

theorem weight_lane (v : Vec F S16 .i32) (p : ℕ) (hp : p ≤ 16384) (w : S16384.Idx → F .f32) (l : Fin 16) (h : v (Shape.ofLane (d := ![16]) l) = BitVec.ofNat 32 p)
    (hix : ∀ a x, ((![k0_pay4 (F := F) v] : Fin 1 → IVec S16 32) a x).toNat < S16384.size a) :
    loadIdx (F := F) (e := .f32) w ![k0_pay4 (F := F) v] hix (Shape.ofLane l) = wAt w p := by
  refine congrArg w (idx1_ext (N := 16384) _ _ ?_)
  show (v (Shape.ofLane (d := ![16]) l) &&& 16383#32).toNat = p % 16384
  rw [h, BitVec.toNat_and, BitVec.toNat_ofNat, Nat.mod_eq_of_lt (by omega)]
  exact Nat.and_two_pow_sub_one_eq_mod p 14

set_option maxHeartbeats 1000000 in
theorem meta_rows (A : S16384.Idx → BitVec 32) (w : S16384.Idx → F .f32) (eb : BitVec 32) (s : S16400.Idx → BitVec 32)
    (hs : ∀ y, (y 0).val < 576 → s y = BitVec.ofNat 32 (slotOf A eb (y 0).val))
    (f : S4096.Idx → F .f32) (hf : ∀ y, f y = unfilled) {kk : BitVec 32 → Pg F L α} :
    iprop(sPts (F := F) d L s ∗ wPts (F := F) d L w ∗ mPts (F := F) d L f)
      ⊢ iprop((∀ acc (g : S4096.Idx → F .f32),
          ⌜MetaAt (fun i => metaVal (BitVec.ofNat 32 (slotOf A eb i)) eb (wAt w (slotOf A eb i))) (min (cnt A eb 16384) 512) 512 0 g⌝
          -∗ sPts (F := F) d L s -∗ wPts (F := F) d L w -∗ mPts (F := F) d L g -∗ W d L (kk acc) Q)
      -∗ W d L (Scf.Loop.for k0_t4_loop k0_t4_ok 0#32 (metaBody (F := F) L (iota .scVector S16 32 [0] iota_S16_d0_w32_scVector)
          (broadcast S16 (Scalar.minsi (BitVec.ofNat 32 (cnt A eb 16384)) 512#32)) (sitofp .f32 (broadcast S16 eb))) >>= kk) Q) := by
  iintro ⟨Hs, Hw, Hm⟩ Hk
  iapply (Scf.wp_for_bind frame (wpE (defs₀ (F := F)) 𝒱₀ (VT d L) none) Set.univ k0_t4_loop.lb k0_t4_loop.ub k0_t4_loop.st k0_t4_ok 0#32
    (metaBody (F := F) L (iota .scVector S16 32 [0] iota_S16_d0_w32_scVector)
          (broadcast S16 (Scalar.minsi (BitVec.ofNat 32 (cnt A eb 16384)) 512#32)) (sitofp .f32 (broadcast S16 eb)))
    (fun k _ => iprop(∃ g : S4096.Idx → F .f32,
      ⌜MetaAt (fun i => metaVal (BitVec.ofNat 32 (slotOf A eb i)) eb (wAt w (slotOf A eb i))) (min (cnt A eb 16384) 512) (16 * k) 0 g⌝
      ∗ sPts (F := F) d L s ∗ wPts (F := F) d L w ∗ mPts (F := F) d L g)) ?_) $$ [Hs Hw Hm]
  · intro k acc
    iintro ⟨%g, %hg, Hs, Hw, Hm⟩
    have hk : k.val < 32 := lt_of_lt_of_le k.isLt k0_t4_abs.2.1
    have hiv : (Scf.iv 0#32 1#32 k).toNat = k.val := WordArith.toNat_iv_zero_one _ (by omega)
    have hmask : ∀ l : Fin 16, k0_pay2 (iota .scVector S16 32 [0] iota_S16_d0_w32_scVector)
        (broadcast S16 (Scalar.minsi (BitVec.ofNat 32 (cnt A eb 16384)) 512#32)) 0#32 1#32 k (Shape.ofLane l) = 1
        ↔ 16 * k.val + l.val < min (cnt A eb 16384) 512 :=
      fun l => fill_mask hiv hk rfl (cnt_total_le A eb) l
    have ht0 : ∀ x : S16.Idx, (k0_pay6 (iota .scVector S16 32 [0] iota_S16_d0_w32_scVector) 0#32 1#32 k x).toNat = (16 * k.val + (x 0).val) * 8 + 0 := by
      intro x
      have := colTgt (cb := 0#32) (c := 0) hiv hk rfl (by omega) x
      rw [← this]
      show _ = (_ + 0#32).toNat
      rw [BitVec.add_zero]; rfl
    have htc : ∀ (cb : BitVec 32) (c : ℕ) (_ : cb.toNat = c) (_ : c < 8), ∀ x : S16.Idx,
        (addi (k0_pay6 (iota .scVector S16 32 [0] iota_S16_d0_w32_scVector) 0#32 1#32 k) (broadcast S16 cb) x).toNat = (16 * k.val + (x 0).val) * 8 + c :=
      fun cb c h h' x => colTgt hiv hk h h' x
    have ht2 : ∀ x : S16.Idx, (k0_pay9 (k0_pay6 (iota .scVector S16 32 [0] iota_S16_d0_w32_scVector) 0#32 1#32 k) x).toNat = (16 * k.val + (x 0).val) * 8 + 2 := by
      intro x
      rw [← htc 2#32 2 rfl (by omega) x]
      show (_ + 1#32 + 1#32).toNat = (_ + 2#32).toNat
      rw [BitVec.add_assoc]; rfl
    have ht1 : ∀ x : S16.Idx, (addi (k0_pay6 (iota .scVector S16 32 [0] iota_S16_d0_w32_scVector) 0#32 1#32 k) k0_pay3 x).toNat = (16 * k.val + (x 0).val) * 8 + 1 := htc 1#32 1 rfl (by omega)
    have ht3 : ∀ x : S16.Idx, (k0_pay11 (k0_pay6 (iota .scVector S16 32 [0] iota_S16_d0_w32_scVector) 0#32 1#32 k) x).toNat = (16 * k.val + (x 0).val) * 8 + 3 := htc 3#32 3 rfl (by omega)
    have ht4 : ∀ x : S16.Idx, (k0_pay12 (k0_pay6 (iota .scVector S16 32 [0] iota_S16_d0_w32_scVector) 0#32 1#32 k) x).toNat = (16 * k.val + (x 0).val) * 8 + 4 := htc 4#32 4 rfl (by omega)
    have ht5 : ∀ x : S16.Idx, (k0_pay13 (k0_pay6 (iota .scVector S16 32 [0] iota_S16_d0_w32_scVector) 0#32 1#32 k) x).toNat = (16 * k.val + (x 0).val) * 8 + 5 := htc 5#32 5 rfl (by omega)
    have ht6 : ∀ x : S16.Idx, (k0_pay14 (k0_pay6 (iota .scVector S16 32 [0] iota_S16_d0_w32_scVector) 0#32 1#32 k) x).toNat = (16 * k.val + (x 0).val) * 8 + 6 := htc 6#32 6 rfl (by omega)
    have ht7 : ∀ x : S16.Idx, (k0_pay38 (k0_pay6 (iota .scVector S16 32 [0] iota_S16_d0_w32_scVector) 0#32 1#32 k) x).toNat = (16 * k.val + (x 0).val) * 8 + 7 := htc 7#32 7 rfl (by omega)
    have hrd : ∀ l : Fin 16, (bS.access (Rect.unit (s := S16400) (k0_off4 k) S16.size (k0_off4_inb k))).read (Elt F) s (Shape.ofLane (d := ![16]) l)
        = BitVec.ofNat 32 (slotOf A eb (16 * k.val + l.val)) := by
      intro l
      have hl := l.isLt
      rw [src_read (F := F) (k0_off4_eq k) _ s _ (Shape.ofLane (d := ![16400]) (⟨16 * k.val + l.val, by omega⟩ : Fin 16400)) rfl]
      exact hs _ (show 16 * k.val + l.val < 576 by omega)
    unfold metaBody
    rw [k0_part1_eq_skeleton]
    unfold k0_part1_skel
    simp only [Prog.lift, Prog.bind_assoc, Prog.bind_op, Prog.bind_ret, Prog.pure_eq_ret]
    iapply (load_src (F := F) d L s) $$ Hs
    iintro Hs
    have hix : ∀ x, (k0_pay4 ((bS.access (Rect.unit (s := S16400) (k0_off4 k) S16.size (k0_off4_inb k))).read (Elt F) s) x).toNat < 16384 := by
      intro x
      show (_ &&& 16383#32).toNat < 16384
      rw [BitVec.toNat_and]
      exact lt_of_le_of_lt Nat.and_le_right (by decide)
    have hixA : ∀ a x, ((![k0_pay4 (F := F) ((bS.access (Rect.unit (s := S16400) (k0_off4 k) S16.size (k0_off4_inb k))).read (Elt F) s)] : Fin 1 → IVec S16 32) a x).toNat
        < S16384.size a := fun a x => by fin_cases a; exact hix x
    iapply (assume_step (F := F) d L (show k0_chk2 _ from hixA))
    iapply (gather_wgt (F := F) d L w) $$ Hw
    iintro Hw
    iapply (assume_step (F := F) d L (show k0_chk3 _ from meta_inb hk (by omega) ht0))
    iapply (scatter_meta (F := F) d L g) $$ Hm
    iintro Hm
    have hcol := hg.col (by omega) _ _ _ (meta_inb hk (by omega) ht0) hmask (fun l => ht0 _) (fun l _ => (place_lane (F := F) _ _ l (hrd l)).1)
    iapply (assume_step (F := F) d L (show k0_chk4 _ from meta_inb hk (by omega) ht1))
    iapply (scatter_meta (F := F) d L _) $$ Hm
    iintro Hm
    replace hcol := hcol.col (by omega) _ _ _ (meta_inb hk (by omega) ht1) hmask (fun l => ht1 _) (fun l _ => (place_lane (F := F) _ _ l (hrd l)).2.1)
    iapply (assume_step (F := F) d L (show k0_chk5 _ from meta_inb hk (by omega) (ht2)))
    iapply (scatter_meta (F := F) d L _) $$ Hm
    iintro Hm
    replace hcol := hcol.col (by omega) _ _ _ (meta_inb hk (by omega) (ht2)) hmask (fun l => (ht2) _) (fun l _ => (place_lane (F := F) _ _ l (hrd l)).2.2)
    iapply (assume_step (F := F) d L (show k0_chk6 _ from meta_inb hk (by omega) ht3))
    iapply (scatter_meta (F := F) d L _) $$ Hm
    iintro Hm
    replace hcol := hcol.col (by omega) _ _ (sitofp .f32 (broadcast S16 eb)) (meta_inb hk (by omega) ht3) hmask (fun l => ht3 _) (fun l _ => rfl)
    iapply (assume_step (F := F) d L (show k0_chk7 _ from meta_inb hk (by omega) ht4))
    iapply (scatter_meta (F := F) d L _) $$ Hm
    iintro Hm
    replace hcol := hcol.col (by omega) _ _ (loadIdx (F := F) (e := .f32) w ![k0_pay4 (F := F) _] hixA) (meta_inb hk (by omega) ht4) hmask (fun l => ht4 _) (fun l _ => weight_lane _ _ (slotOf_le A eb _) w l (hrd l) hixA)
    iapply (assume_step (F := F) d L (show k0_chk8 _ from meta_inb hk (by omega) ht5))
    iapply (scatter_meta (F := F) d L _) $$ Hm
    iintro Hm
    replace hcol := hcol.col (by omega) _ _ (k0_pay5 (F := F)) (meta_inb hk (by omega) ht5) hmask (fun l => ht5 _) (fun l _ => rfl)
    iapply (assume_step (F := F) d L (show k0_chk9 _ from meta_inb hk (by omega) ht6))
    iapply (scatter_meta (F := F) d L _) $$ Hm
    iintro Hm
    replace hcol := hcol.col (by omega) _ _ (k0_pay5 (F := F)) (meta_inb hk (by omega) ht6) hmask (fun l => ht6 _) (fun l _ => rfl)
    iapply (assume_step (F := F) d L (show k0_chk10 _ from meta_inb hk (by omega) ht7))
    iapply (scatter_meta (F := F) d L _) $$ Hm
    iintro Hm
    replace hcol := hcol.col (by omega) _ _ (k0_pay5 (F := F)) (meta_inb hk (by omega) ht7) hmask (fun l => ht7 _) (fun l _ => rfl)
    unfold W; rw [wp_ret]
    imodintro
    iexists _
    isplitr
    swap
    · isplitl [Hs]
      · iexact Hs
      isplitl [Hw]
      · iexact Hw
      · iexact Hm
    · ipureintro
      exact hcol.next
  · iexists f
    isplitr
    · ipureintro; exact MetaAt.start hf
    · isplitl [Hs]
      · iexact Hs
      isplitl [Hw]
      · iexact Hw
      · iexact Hm
  · iintro %acc ⟨%g, %hg, Hs, Hw, Hm⟩
    iapply Hk $$ %acc %g [] [Hs] [Hw] [Hm]
    · ipureintro; exact hg
    · iexact Hs
    · iexact Hw
    · iexact Hm

end Loops

end Cert.Proof.Dispatch

end
-- ==== Proof.Rounds.lean ====
/-
  The transfers one expert's work is made of: the synchronous copies, the indirect gather of a chunk of quarter rows with
  its wait, the store of a gathered chunk with its wait, and the rounds that overlap the store of one chunk with the gather
  of the next.
-/
module

public import proofs.«01_k».proof.Proof.Setup
public import Idealize.ShloMosaic.Lib.WordArith.Masks

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Indices -/

theorem idx3_ext {a b c : ℕ} (x y : (⟨3, ![a, b, c]⟩ : Shape).Idx) (h0 : (x 0).val = (y 0).val) (h1 : (x 1).val = (y 1).val)
    (h2 : (x 2).val = (y 2).val) : x = y := by
  funext i
  fin_cases i
  · exact Fin.ext h0
  · exact Fin.ext h1
  · exact Fin.ext h2

/-- The table's word `(a, b)` of quarter row `n`. -/
def tix (n : ℕ) (a : Fin 2) (b : Fin 128) : S32800x2x128.Idx := fun i =>
  ⟨(![n % 32800, a.val, b.val] : Fin 3 → ℕ) i, by
    fin_cases i
    · exact Nat.mod_lt _ (by decide)
    · exact a.isLt
    · exact b.isLt⟩

/-- The quarter rows a chunk of 128 list entries names. -/
def chunkOf (xt : S32800x2x128.Idx → F .f32) (Sl : ℕ → ℕ) (k : Fin 16) : S128x2x128.Idx → F .f32 := fun x =>
  xt (tix (quarterOf Sl (128 * k.val + (x 0).val)) (x 1) (x 2))

theorem quarterOf_lt {Sl : ℕ → ℕ} (hS : ∀ i, Sl i ≤ 16384) (n : ℕ) : quarterOf Sl n < 32800 := by
  unfold quarterOf
  have := hS (n / 4)
  omega

/-! ## The programs of the transfers -/

/-- The two row buffers, by turns. -/
def xBuf : Bool → Memref sig .scVector .vmem S128x2x128 .f32
  | false => bX
  | true => bY

theorem xBuf_whole (p : Bool) : (xBuf p).view.WordExact := by
  cases p
  · exact (Memref.isWhole_whole cc0_scratch4).wordExact
  · exact (Memref.isWhole_whole cc0_scratch5).wordExact

/-- The semaphores of their stores. -/
def stSem : Bool → DmaSem sig
  | false => cc0_scratch9.sem
  | true => cc0_scratch10.sem

theorem quarter_inb (k : Fin 16) (a : Fin S2048.rank) : (![128 * k.val] : Fin 1 → ℕ) a + S128.size a ≤ S2048.size a := by
  fin_cases a
  show 128 * k.val + 128 ≤ 2048
  omega

abbrev tblAll : Memref sig .scVector .hbm S32800x2x128 .f32 :=
  aT.slice (Rect.unit (s := S32800x2x128) ![0, 0, 0] S32800x2x128.size inb_S32800x2x128_S32800x2x128_0_0_0) (fun _ => rfl)
abbrev listAt (k : Fin 16) : Memref sig .scVector .vmem S128 .i32 :=
  bQ.slice (Rect.unit (s := S2048) ![128 * k.val] S128.size (quarter_inb k)) (fun _ => rfl)

/-- A round's index as a chunk. -/
def ch (n : ℕ) : Fin 16 := ⟨n % 16, Nat.mod_lt _ (by decide)⟩

section Progs

variable [FloatOps F] (L : grid0.Coords)

abbrev dispAt (r : Fin 2) (k : Fin 16) : Memref sig .scVector .hbm S128x2x128 .f32 :=
  aD.slice (Rect.unit (s := S131072x2x128) (k0_off8 L (BitVec.ofNat 32 r.val) (BitVec.ofNat 32 (32 * k.val))) S128x2x128.size (k0_off8_inb L r k)) (fun _ => rfl)

def gatherStart (p : Bool) (k : Fin 16) : Pg F L PUnit :=
  SparseCore.enqueueIndirectGather rfl tblAll (xBuf p) gathers_S32800x2x128_S128x2x128 (listAt k) rfl cc0_scratch8.sem (View.wordExact_bits rfl) rfl (Or.inl rfl)

def gatherWait (p : Bool) : Pg F L PUnit :=
  SparseCore.waitIndirectGather cc0_scratch8.sem tblAll (xBuf p) (View.wordExact_bits rfl) (xBuf_whole p)

def storeStart (p : Bool) (r : Fin 2) (k : Fin 16) : Pg F L PUnit :=
  Prog.lift (.enqueueDma (xBuf p) (.here (dispAt L r k)) (.dma (stSem p)) (xBuf_whole p) (View.wordExact_bits rfl) ⟨Or.inl rfl, trivial⟩)

def storeWait (p : Bool) (r : Fin 2) (k : Fin 16) : Pg F L PUnit :=
  Prog.lift (.waitDma2 (stSem p) (xBuf p) (dispAt L r k) (xBuf_whole p) (View.wordExact_bits rfl))

/-- Round `n`: store chunk `n` while chunk `n + 1` arrives, then start the gather of chunk `n + 2`. -/
def round (r : Fin 2) (p : Bool) (n : ℕ) : Pg F L PUnit := do
  storeStart L p r (ch n)
  gatherWait L (!p)
  storeWait L p r (ch n)
  gatherStart L p (ch (n + 2))

/-- The first `n` rounds, the buffer of each the one the round before it did not store. -/
def roundsTo (r : Fin 2) : ℕ → Pg F L PUnit
  | 0 => pure ⟨⟩
  | n + 1 => do
    roundsTo r n
    round L r (n.bodd) n

/-- All sixteen chunks of an expert. -/
def chunks (r : Fin 2) : Pg F L PUnit := do
  gatherStart L false (ch 0)
  gatherWait L false
  gatherStart L true (ch 1)
  roundsTo L r 14
  storeStart L false r (ch 14)
  gatherWait L true
  storeWait L false r (ch 14)
  storeStart L true r (ch 15)
  storeWait L true r (ch 15)

end Progs

/-! ## Waiting -/

section Rules

variable [FloatOps F] (d : Dev nD) (L : grid0.Coords) {α : Type} {Q : α → sProp (MT nD τ sig (HIx 1) (Elt F) ℕ UU ℕ)}
variable (O : CellTallies nD τ sig (HIx 1)) (W0 : Waits sig (HIx 1))

/-- The subcore owes `O`, and has waited, past `W0`, only on its own transfers. -/
def Owe : sProp 𝕄 := iprop(∃ W', ⌜∀ p ∈ W', p ∈ W0 ∨ p.2 = none⌝ ∗ owes (VT d L) O W')

abbrev Mw : sProp 𝕄 := Transfers.MayWaits (VT d L) (default : HIx 1) O

theorem wait_step {sp sp' : Space} {s s' : Shape} {e e' : EltTy} {sem : DmaSem sig} {srcw : Memref sig .scVector sp' s' e'} {dstw : Memref sig .scVector sp s e}
    {hsrc : srcw.view.WordExact} {hdst : dstw.view.WordExact} {k : PUnit → Pg F L α} {N : ℕ} (hN : dstw.view.dmaCredit = N) {X : sProp 𝕄} :
    iprop(Mw (F := F) d L O ∗ Transfers.Flight countersEmb (VT d L) (.dma sem) (default : HIx 1) N X ∗ Owe d L O W0)
      ⊢ iprop((iprop(X ∗ semVal (VT d L, SemLoc.dma sem) 0 ∗ Owe d L O W0) -∗ W d L (k ⟨⟩) Q)
          -∗ W d L (.op (.waitDma2 sem srcw dstw hsrc hdst) k) Q) := by
  have h := fun W' => Transfers.wp_waitLocalO (defs := defs₀ (F := F)) countersEmb 𝒱₀ (VT d L) none (sem := sem) (srcw := srcw) (dstw := dstw) (hsrc := hsrc) (hdst := hdst)
    (k := k) (Q := Q) (default : HIx 1) hN (D := X) (O := O) (W := W')
  unfold Owe
  iintro ⟨#Hmw, Hf, ⟨%W', %hW, HO⟩⟩ Hk
  iapply (h W') $$ [Hf HO]
  · isplitl [Hf]; · iexact Hf
    isplitl [HO]; · iexact HO
    iapply (Transfers.MayWaits.elim (SemLoc.dma sem)) $$ Hmw
  iintro ⟨HX, Hs, HO⟩
  iapply Hk
  isplitl [HX]; · iexact HX
  isplitl [Hs]; · iexact Hs
  iexists (insert (SemLoc.dma sem, (default : HIx 1)) W')
  isplitr
  · ipureintro
    intro p hp
    rcases Finset.mem_insert.1 hp with rfl | hp
    · exact Or.inr rfl
    · exact hW p hp
  · iexact HO

/-- A copy and its wait, the next operation. -/
theorem sync_copy {sp sp' : Space} {s : Shape} {e : EltTy} {sem : DmaSem sig} {src : Memref sig .scVector sp s e} {dst : Memref sig .scVector sp' s e}
    {hsrc hsrc' : src.view.WordExact} {hdst hdst' : dst.view.WordExact} {hsem : (DmaTarget.here dst : DmaTarget nD τ sig (VT d L).2 sp' s e).Typed sp (.dma sem)}
    {k : PUnit → Pg F L α} {q : PosShare TreeShare} {fs : Buf (Elt F) (src.view.loc (VT d L))}
    {Sd : Finset (Idx (dst.view.loc (VT d L)))} {fd : Buf (Elt F) (dst.view.loc (VT d L))} (hN0 : 0 < s.numel) (hSd : dst.view.set ⊆ Sd) :
    iprop(Mw (F := F) d L O ∗ (src.view.loc (VT d L) ↦[src.view.set]{q} fs) ∗ (dst.view.loc (VT d L) ↦[Sd]{fullShare} fd) ∗ semVal (VT d L, SemLoc.dma sem) 0 ∗ Owe d L O W0)
      ⊢ iprop((iprop((dst.view.loc (VT d L) ↦[Sd]{fullShare} (dst.view.write (Elt F) fd (src.view.read (Elt F) fs) Finset.univ))
                ∗ (src.view.loc (VT d L) ↦[src.view.set]{q} fs) ∗ semVal (VT d L, SemLoc.dma sem) 0 ∗ Owe d L O W0) -∗ W d L (k ⟨⟩) Q)
          -∗ W d L (.op (.enqueueDma src (.here dst) (.dma sem) hsrc hdst hsem) fun _ => .op (.waitDma2 sem src dst hsrc' hdst') k) Q) := by
  have h := Transfers.wp_dmaLocal (defs := defs₀ (F := F)) countersEmb 𝒱₀ (VT d L) none (src := src) (via := .same) (dst := dst) (sm := .dma sem) (hsrc := hsrc) (hdst := hdst) (hsem := hsem)
    (k := fun _ => .op (.waitDma2 sem src dst hsrc' hdst') k) (q := q) (fs := fs) (Sd := Sd) (fd := fd) (Q := Q) (default : HIx 1) dst.view.dmaCredit rfl (View.dmaCredit_pos _ hN0) hSd
  iintro ⟨#Hmw, Hs, Hd, Hv, HO⟩ Hk
  iapply h $$ [Hs Hd Hv]
  · isplitl [Hs]; · iexact Hs
    isplitl [Hd]; · iexact Hd
    iexact Hv
  iintro Hf
  iapply (wait_step d L O W0 rfl) $$ [Hf HO]
  · isplitr; · iexact Hmw
    isplitl [Hf]; · iexact Hf
    iexact HO
  iintro ⟨⟨Hd, Hs⟩, Hv, HO⟩
  iapply Hk
  isplitl [Hd]; · iexact Hd
  isplitl [Hs]; · iexact Hs
  isplitl [Hv]; · iexact Hv
  iexact HO

/-! ## The gather of a chunk -/

abbrev tPts (q : PosShare TreeShare) (xt : S32800x2x128.Idx → F .f32) : sProp 𝕄 := tLoc d ↦{q} (xt : Buf (Elt F) (tLoc d))

/-- Contents as those of one of the two row buffers. -/
def xAs (p : Bool) (f : S128x2x128.Idx → F .f32) : Buf (Elt F) ((xBuf p).view.loc (VT d L)) :=
  match p with
  | false => (f : Buf (Elt F) ((VT d L).loc cc0_scratch4))
  | true => (f : Buf (Elt F) ((VT d L).loc cc0_scratch5))

theorem x_write (p : Bool) (f g : S128x2x128.Idx → F .f32) : (xBuf p).view.write (Elt F) (xAs d L p f) g Finset.univ = xAs d L p g := by
  cases p
  · exact View.write_whole_univ cc0_scratch4 _ _
  · exact View.write_whole_univ cc0_scratch5 _ _

theorem x_read (p : Bool) (f : S128x2x128.Idx → F .f32) : (xBuf p).view.read (Elt F) (xAs d L p f) = f := by
  cases p <;> rfl

abbrev xPts (p : Bool) (f : S128x2x128.Idx → F .f32) : sProp 𝕄 := (xBuf p).view.loc (VT d L) ↦[(xBuf p).view.set]{fullShare} xAs d L p f

theorem xPts_false (f : S128x2x128.Idx → F .f32) : xPts d L false f = ((VT d L).loc cc0_scratch4 ↦{fullShare} (f : Buf (Elt F) ((VT d L).loc cc0_scratch4)) : sProp 𝕄) :=
  congrArg (fun S => ((VT d L).loc cc0_scratch4 ↦[S]{fullShare} (f : Buf (Elt F) ((VT d L).loc cc0_scratch4)) : sProp 𝕄)) (View.set_whole _)

theorem xPts_true (f : S128x2x128.Idx → F .f32) : xPts d L true f = ((VT d L).loc cc0_scratch5 ↦{fullShare} (f : Buf (Elt F) ((VT d L).loc cc0_scratch5)) : sProp 𝕄) :=
  congrArg (fun S => ((VT d L).loc cc0_scratch5 ↦[S]{fullShare} (f : Buf (Elt F) ((VT d L).loc cc0_scratch5)) : sProp 𝕄)) (View.set_whole _)

theorem tbl_read (xt : S32800x2x128.Idx → F .f32) (y : S32800x2x128.Idx) : tblAll.view.read (Elt F) xt y = xt y := by
  refine (read_at (Elt F) main_v5_scv (Rect.unit (s := S32800x2x128) _ S32800x2x128.size _) xt y).trans (congrArg xt (idx3_ext _ _ ?_ ?_ ?_))
  · show 0 + 1 * (y 0).val = _; omega
  · show 0 + 1 * (y 1).val = _; omega
  · show 0 + 1 * (y 2).val = _; omega

theorem list_read (k : Fin 16) (qf : S2048.Idx → BitVec 32) (x : S128.Idx) :
    (listAt k).view.read (Elt F) qf x = qf (Shape.ofLane (d := ![2048]) (⟨128 * k.val + (x 0).val, by have : (x 0).val < 128 := (x 0).isLt; omega⟩ : Fin 2048)) := by
  refine (read_at (Elt F) cc0_scratch3 (Rect.unit (s := S2048) _ S128.size _) qf x).trans (congrArg qf ?_)
  funext a
  fin_cases a
  refine Fin.ext ?_
  show 128 * k.val + 1 * (x 0).val = 128 * k.val + (x 0).val
  omega

variable {Sl : ℕ → ℕ} {qf : S2048.Idx → BitVec 32}

theorem list_val (hS : ∀ i, Sl i ≤ 16384) (hq : ∀ y, qf y = BitVec.ofNat 32 (quarterOf Sl (y 0).val)) (k : Fin 16) (x : S128.Idx) :
    ((listAt k).view.read (Elt F) qf x).toNat = quarterOf Sl (128 * k.val + (x 0).val) := by
  rw [list_read (F := F) k qf x, hq]
  have h := quarterOf_lt hS (128 * k.val + (x 0).val)
  show (BitVec.ofNat 32 (quarterOf Sl (128 * k.val + (x 0).val))).toNat = _
  rw [BitVec.toNat_ofNat]
  exact Nat.mod_eq_of_lt (by omega)

theorem list_in (hS : ∀ i, Sl i ≤ 16384) (hq : ∀ y, qf y = BitVec.ofNat 32 (quarterOf Sl (y 0).val)) (k : Fin 16) (x : S128.Idx) :
    ((listAt k).view.read (Elt F) qf x).toNat < S32800x2x128.size gathers_S32800x2x128_S128x2x128.axis := by
  rw [list_val (F := F) hS hq k x]
  exact quarterOf_lt hS _

/-- What the stream leaves in its row buffer. -/
theorem gathered (xt : S32800x2x128.Idx → F .f32) (hS : ∀ i, Sl i ≤ 16384) (hq : ∀ y, qf y = BitVec.ofNat 32 (quarterOf Sl (y 0).val)) (k : Fin 16)
    (hn : S128.numel = S128x2x128.size gathers_S32800x2x128_S128x2x128.axis') (hin) :
    SparseCore.gatherPayload gathers_S32800x2x128_S128x2x128 (tblAll.view.read (Elt F) xt)
      (SparseCore.rows ((listAt k).view.read (Elt F) qf) hn hin) = chunkOf xt Sl k := by
  funext x
  refine (tbl_read xt _).trans (congrArg xt ?_)
  have h0 : ((S128.rowMajor.symm ((x 0).cast hn.symm)) 0).val = (x 0).val := by
    have h := Shape.rowMajor_val_one (d := ![128]) (S128.rowMajor.symm ((x 0).cast hn.symm))
    rw [← h]
    exact congrArg Fin.val (Equiv.apply_symm_apply S128.rowMajor ((x 0).cast hn.symm))
  refine idx3_ext _ _ ?_ rfl rfl
  show ((listAt k).view.read (Elt F) qf (S128.rowMajor.symm ((x 0).cast hn.symm))).toNat = _
  rw [list_val (F := F) hS hq k, h0]
  exact (Nat.mod_eq_of_lt (quarterOf_lt hS _)).symm

/-- The gather of chunk `k` in flight: the transfer's delivery, and what is kept of the table's share and of the list. -/
def GF (q : PosShare TreeShare) (xt : S32800x2x128.Idx → F .f32) (qf : S2048.Idx → BitVec 32) (Sl : ℕ → ℕ) (p : Bool) (k : Fin 16) : sProp 𝕄 :=
  iprop(Transfers.Flight countersEmb (VT d L) (.dma cc0_scratch8.sem) (default : HIx 1) (xBuf p).view.dmaCredit
      iprop(xPts d L p (chunkOf xt Sl k) ∗ (tblAll.view.loc (VT d L) ↦[tblAll.view.set]{q} (xt : Buf (Elt F) (tLoc d)))
        ∗ ((listAt k).view.loc (VT d L) ↦[(listAt k).view.set]{fullShare} (qf : Buf (Elt F) ((VT d L).loc cc0_scratch3))))
    ∗ (tLoc d ↦[Finset.univ \ tblAll.view.set]{q} (xt : Buf (Elt F) (tLoc d)))
    ∗ ((VT d L).loc cc0_scratch3 ↦[Finset.univ \ (listAt k).view.set]{fullShare} (qf : Buf (Elt F) ((VT d L).loc cc0_scratch3))))

theorem gather_start {k' : PUnit → Pg F L α} (q : PosShare TreeShare) (xt : S32800x2x128.Idx → F .f32) (hS : ∀ i, Sl i ≤ 16384)
    (hq : ∀ y, qf y = BitVec.ofNat 32 (quarterOf Sl (y 0).val)) (p : Bool) (k : Fin 16) (f : S128x2x128.Idx → F .f32) :
    iprop(tPts d q xt ∗ qPts d L qf ∗ xPts d L p f ∗ semVal (VT d L, SemLoc.dma cc0_scratch8.sem) 0)
      ⊢ iprop((GF d L q xt qf Sl p k -∗ W d L (k' ⟨⟩) Q) -∗ W d L (gatherStart L p k >>= k') Q) := by
  have hN : ∀ h : S32800x2x128.Gathers 0 S128x2x128, ∑ j, ((xBuf p).slice (S128x2x128.rowRect h.axis' j) (S128x2x128.stride_rowRect h.axis' j)).view.dmaCredit
      = (xBuf p).view.dmaCredit := by cases p <;> decide
  have h := SparseCore.wp_indirectGatherLocal (defs := defs₀ (F := F)) countersEmb 𝒱₀ (VT d L) none (src := tblAll) (dst := xBuf p) (hg := gathers_S32800x2x128_S128x2x128)
    (offs := listAt k) (hn := rfl) (sem := cc0_scratch8.sem) (hp := rfl) (hsrc := View.wordExact_bits rfl) (he := rfl) (hsp := Or.inl rfl) (hr := by decide) (k := k') (Q := Q)
    (q := q) (qo := fullShare) (fs := xt) (fd := xAs d L p f) (fo := qf)
    (default : HIx 1) (xBuf p).view.dmaCredit (hN _) (by decide) (list_in hS hq k)
  have hg := gathered xt hS hq k rfl (list_in (F := F) hS hq k)
  have hD : (xBuf p).view.write (Elt F) (xAs d L p f) (SparseCore.gatherPayload gathers_S32800x2x128_S128x2x128 (tblAll.view.read (Elt F) xt)
      (SparseCore.rows ((listAt k).view.read (Elt F) qf) rfl (list_in (F := F) hS hq k))) Finset.univ = xAs d L p (chunkOf xt Sl k) :=
    (congrArg (fun v => (xBuf p).view.write (Elt F) (xAs d L p f) v Finset.univ) hg).trans (x_write d L p f _)
  unfold gatherStart GF
  iintro ⟨Ht, Hq, Hx, Hv⟩ Hk
  icases (pointsTo_split_subset (q := q) (f := (xt : Buf (Elt F) (tLoc d))) (S := Finset.univ) (Finset.subset_univ tblAll.view.set)).1 $$ Ht with ⟨Hts, Htr⟩
  icases (pointsTo_split_subset (q := fullShare) (f := (qf : Buf (Elt F) ((VT d L).loc cc0_scratch3))) (S := Finset.univ) (Finset.subset_univ (listAt k).view.set)).1 $$ Hq with ⟨Hqs, Hqr⟩
  iapply h $$ [Hts Hx Hqs Hv]
  · isplitl [Hts]; · iexact Hts
    isplitl [Hx]; · iexact Hx
    isplitl [Hqs]; · iexact Hqs
    iexact Hv
  iintro Hf
  iapply Hk
  isplitl [Hf]
  · have hm := Transfers.Flight_mono countersEmb (VT d L) (sm := .dma cc0_scratch8.sem) (ι := (default : HIx 1)) (N := (xBuf p).view.dmaCredit)
      (Entails.of_eq (congrArg (fun v => iprop(((xBuf p).view.loc (VT d L) ↦[(xBuf p).view.set]{fullShare} v) ∗ (tblAll.view.loc (VT d L) ↦[tblAll.view.set]{q} (xt : Buf (Elt F) (tLoc d)))
        ∗ ((listAt k).view.loc (VT d L) ↦[(listAt k).view.set]{fullShare} (qf : Buf (Elt F) ((VT d L).loc cc0_scratch3))) : sProp 𝕄)) hD))
    iapply hm $$ Hf
  isplitl [Htr]; · iexact Htr
  iexact Hqr

theorem gather_wait {k' : PUnit → Pg F L α} (q : PosShare TreeShare) (xt : S32800x2x128.Idx → F .f32) (p : Bool) (k : Fin 16) :
    iprop(Mw (F := F) d L O ∗ GF d L q xt qf Sl p k ∗ Owe d L O W0)
      ⊢ iprop((iprop(tPts d q xt ∗ qPts d L qf ∗ xPts d L p (chunkOf xt Sl k) ∗ semVal (VT d L, SemLoc.dma cc0_scratch8.sem) 0 ∗ Owe d L O W0) -∗ W d L (k' ⟨⟩) Q)
          -∗ W d L (gatherWait L p >>= k') Q) := by
  unfold gatherWait GF
  iintro ⟨#Hmw, ⟨Hf, Htr, Hqr⟩, HO⟩ Hk
  iapply (wait_step d L O W0 rfl (X := iprop(xPts d L p (chunkOf xt Sl k) ∗ (tblAll.view.loc (VT d L) ↦[tblAll.view.set]{q} (xt : Buf (Elt F) (tLoc d)))
        ∗ ((listAt k).view.loc (VT d L) ↦[(listAt k).view.set]{fullShare} (qf : Buf (Elt F) ((VT d L).loc cc0_scratch3))))) (k := k')) $$ [Hf HO]
  · isplitr; · iexact Hmw
    isplitl [Hf]; · iexact Hf
    iexact HO
  iintro ⟨⟨Hx, Hts, Hqs⟩, Hv, HO⟩
  iapply Hk
  isplitl [Hts Htr]
  · iapply (pointsTo_split_subset (q := q) (f := (xt : Buf (Elt F) (tLoc d))) (S := Finset.univ) (Finset.subset_univ tblAll.view.set)).2
    isplitl [Hts] <;> iassumption
  isplitl [Hqs Hqr]
  · iapply (pointsTo_split_subset (q := fullShare) (f := (qf : Buf (Elt F) ((VT d L).loc cc0_scratch3))) (S := Finset.univ) (Finset.subset_univ (listAt k).view.set)).2
    isplitl [Hqs] <;> iassumption
  isplitl [Hx]; · iexact Hx
  isplitl [Hv]; · iexact Hv
  iexact HO

/-! ## The store of a chunk -/

/-- The dispatch array's rows of one subcore: its two experts' 2048 quarter rows each. -/
def dSet : Finset S131072x2x128.Idx := Finset.univ.filter fun y => (y 0).val / 4096 = 2 * (L 1).val + (L 0).val

abbrev dPts (f : S131072x2x128.Idx → F .f32) : sProp 𝕄 := dLoc d ↦[dSet L]{fullShare} (f : Buf (Elt F) (dLoc d))

/-- The subcore's first `n` chunks hold `spec`. -/
def DAt (spec : S131072x2x128.Idx → F .f32) (n : ℕ) (f : S131072x2x128.Idx → F .f32) : Prop :=
  ∀ y : S131072x2x128.Idx, 8192 * (L 1).val + 4096 * (L 0).val ≤ (y 0).val → (y 0).val < 8192 * (L 1).val + 4096 * (L 0).val + 128 * n → f y = spec y

/-- The dispatch array's contents with a chunk put in its place. -/
def putChunk (r : Fin 2) (k : Fin 16) (fd : S131072x2x128.Idx → F .f32) (g : S128x2x128.Idx → F .f32) : S131072x2x128.Idx → F .f32 :=
  (dispAt L r k).view.write (Elt F) (fd : Buf (Elt F) (dLoc d)) g Finset.univ

theorem DAt.put {spec : S131072x2x128.Idx → F .f32} {n : ℕ} {fd : S131072x2x128.Idx → F .f32} (h : DAt L spec n fd) (r : Fin 2) (k : Fin 16) (hn : n = 16 * r.val + k.val)
    {g : S128x2x128.Idx → F .f32}
    (hg : ∀ (x : S128x2x128.Idx) (y : S131072x2x128.Idx), (y 0).val = 8192 * (L 1).val + 4096 * (L 0).val + 128 * n + (x 0).val → (y 1).val = (x 1).val → (y 2).val = (x 2).val
      → g x = spec y) : DAt L spec (n + 1) (putChunk L r k fd g) := by
  intro y h1 h2
  have hw := write_at (Elt F) main_v6_0_scv (k0_off8_inb L r k) fd g y (k0_off8_eq L r k)
  refine hw.trans ?_
  have hb1 : (y 1).val < 2 := (y 1).isLt
  have hb2 : (y 2).val < 128 := (y 2).isLt
  by_cases hy : 8192 * (L 1).val + 4096 * (L 0).val + 128 * n ≤ (y 0).val
  · have hin : ∀ a, (![8192 * (L 1).val + 4096 * (L 0).val + 2048 * r.val + 128 * k.val, 0, 0] : Fin 3 → ℕ) a ≤ (y a).val
        ∧ (y a).val < (![8192 * (L 1).val + 4096 * (L 0).val + 2048 * r.val + 128 * k.val, 0, 0] : Fin 3 → ℕ) a + S128x2x128.size a := by
      intro a
      fin_cases a
      · show 8192 * (L 1).val + 4096 * (L 0).val + 2048 * r.val + 128 * k.val ≤ (y 0).val ∧ (y 0).val < 8192 * (L 1).val + 4096 * (L 0).val + 2048 * r.val + 128 * k.val + 128
        omega
      · show 0 ≤ (y 1).val ∧ (y 1).val < 0 + 2
        omega
      · show 0 ≤ (y 2).val ∧ (y 2).val < 0 + 128
        omega
    refine (dif_pos hin).trans ?_
    refine hg _ y ?_ ?_ ?_
    · show (y 0).val = 8192 * (L 1).val + 4096 * (L 0).val + 128 * n + ((y 0).val - (8192 * (L 1).val + 4096 * (L 0).val + 2048 * r.val + 128 * k.val))
      omega
    · show (y 1).val = (y 1).val - 0
      omega
    · show (y 2).val = (y 2).val - 0
      omega
  · rw [dif_neg]
    · exact h y h1 (by omega)
    · intro hin
      have h0 : 8192 * (L 1).val + 4096 * (L 0).val + 2048 * r.val + 128 * k.val ≤ (y 0).val := (hin 0).1
      omega

theorem disp_sub (r : Fin 2) (k : Fin 16) : (dispAt L r k).view.set ⊆ dSet L := by
  intro y hy
  obtain ⟨x, _, rfl⟩ := Finset.mem_map.1 hy
  refine Finset.mem_filter.2 ⟨Finset.mem_univ _, ?_⟩
  have hx : (x 0).val < 128 := (x 0).isLt
  have h0 : k0_off8 L (BitVec.ofNat 32 r.val) (BitVec.ofNat 32 (32 * k.val)) 0 = 8192 * (L 1).val + 4096 * (L 0).val + 2048 * r.val + 128 * k.val :=
    congrFun (k0_off8_eq L r k) 0
  show (k0_off8 L (BitVec.ofNat 32 r.val) (BitVec.ofNat 32 (32 * k.val)) 0 + 1 * (x 0).val) / 4096 = _
  rw [h0]
  omega

/-- The store of chunk `k` in flight. -/
def SF (r : Fin 2) (p : Bool) (k : Fin 16) (g : S128x2x128.Idx → F .f32) (fd : S131072x2x128.Idx → F .f32) : sProp 𝕄 :=
  Transfers.Flight countersEmb (VT d L) (.dma (stSem p)) (default : HIx 1) (dispAt L r k).view.dmaCredit
    iprop(dPts d L (putChunk L r k fd g) ∗ xPts d L p g)

theorem store_start {k' : PUnit → Pg F L α} (r : Fin 2) (p : Bool) (k : Fin 16) (g : S128x2x128.Idx → F .f32) (fd : S131072x2x128.Idx → F .f32) :
    iprop(xPts d L p g ∗ dPts d L fd ∗ semVal (VT d L, SemLoc.dma (stSem p)) 0)
      ⊢ iprop((SF d L r p k g fd -∗ W d L (k' ⟨⟩) Q) -∗ W d L (storeStart L p r k >>= k') Q) := by
  have h := Transfers.wp_dmaLocal (defs := defs₀ (F := F)) countersEmb 𝒱₀ (VT d L) none (src := xBuf p) (via := .same) (dst := dispAt L r k) (sm := .dma (stSem p))
    (hsrc := xBuf_whole p) (hdst := View.wordExact_bits rfl) (hsem := ⟨Or.inl rfl, trivial⟩)
    (k := k') (q := fullShare) (fs := xAs d L p g) (Sd := dSet L) (fd := fd) (Q := Q) (default : HIx 1) (dispAt L r k).view.dmaCredit rfl (View.dmaCredit_pos _ (by decide)) (disp_sub L r k)
  have hD : (dispAt L r k).view.write (Elt F) (fd : Buf (Elt F) (dLoc d)) ((xBuf p).view.read (Elt F) (xAs d L p g)) Finset.univ = putChunk L r k fd g :=
    congrArg (fun v => (dispAt L r k).view.write (Elt F) (fd : Buf (Elt F) (dLoc d)) v Finset.univ) (x_read d L p g)
  unfold storeStart SF
  iintro ⟨Hx, Hd, Hv⟩ Hk
  iapply h $$ [Hx Hd Hv]
  · isplitl [Hx]; · iexact Hx
    isplitl [Hd]; · iexact Hd
    iexact Hv
  iintro Hf
  iapply Hk
  have hm := Transfers.Flight_mono countersEmb (VT d L) (sm := .dma (stSem p)) (ι := (default : HIx 1)) (N := (dispAt L r k).view.dmaCredit)
      (Entails.of_eq (congrArg (fun v : S131072x2x128.Idx → F .f32 => iprop((dLoc d ↦[dSet L]{fullShare} (v : Buf (Elt F) (dLoc d))) ∗ xPts d L p g : sProp 𝕄)) hD))
  iapply hm $$ Hf

theorem store_wait {k' : PUnit → Pg F L α} (r : Fin 2) (p : Bool) (k : Fin 16) (g : S128x2x128.Idx → F .f32) (fd : S131072x2x128.Idx → F .f32) :
    iprop(Mw (F := F) d L O ∗ SF d L r p k g fd ∗ Owe d L O W0)
      ⊢ iprop((iprop(dPts d L (putChunk L r k fd g) ∗ xPts d L p g ∗ semVal (VT d L, SemLoc.dma (stSem p)) 0 ∗ Owe d L O W0) -∗ W d L (k' ⟨⟩) Q)
          -∗ W d L (storeWait L p r k >>= k') Q) := by
  unfold storeWait SF
  iintro ⟨#Hmw, Hf, HO⟩ Hk
  iapply (wait_step d L O W0 rfl (X := iprop(dPts d L (putChunk L r k fd g) ∗ xPts d L p g)) (k := k')) $$ [Hf HO]
  · isplitr; · iexact Hmw
    isplitl [Hf]; · iexact Hf
    iexact HO
  iintro ⟨⟨Hd, Hx⟩, Hv, HO⟩
  iapply Hk
  isplitl [Hd]; · iexact Hd
  isplitl [Hx]; · iexact Hx
  isplitl [Hv]; · iexact Hv
  iexact HO

/-! ## The rounds -/

/-- What an expert's quarter rows hold at the end. -/
def Spec (spec : S131072x2x128.Idx → F .f32) (xt : S32800x2x128.Idx → F .f32) (Sl : ℕ → ℕ) (r : Fin 2) : Prop :=
  ∀ (y : S131072x2x128.Idx) (n : ℕ), n < 2048 → (y 0).val = 8192 * (L 1).val + 4096 * (L 0).val + 2048 * r.val + n
    → spec y = xt (tix (quarterOf Sl n) (y 1) (y 2))

theorem Spec.chunk {spec : S131072x2x128.Idx → F .f32} {xt : S32800x2x128.Idx → F .f32} {r : Fin 2} (h : Spec L spec xt Sl r) (k : Fin 16) {n : ℕ} (hn : n = 16 * r.val + k.val)
    (x : S128x2x128.Idx) (y : S131072x2x128.Idx) (h0 : (y 0).val = 8192 * (L 1).val + 4096 * (L 0).val + 128 * n + (x 0).val) (h1 : (y 1).val = (x 1).val)
    (h2 : (y 2).val = (x 2).val) : chunkOf xt Sl k x = spec y := by
  have hx : (x 0).val < 128 := (x 0).isLt
  rw [h y (128 * k.val + (x 0).val) (by omega) (by omega)]
  exact congrArg xt (idx3_ext _ _ rfl h1.symm h2.symm)

variable (q : PosShare TreeShare) (xt : S32800x2x128.Idx → F .f32) (spec : S131072x2x128.Idx → F .f32)

/-- Between rounds: chunk `n` gathered into its buffer, the next one in flight into the other. -/
def RS (qf : S2048.Idx → BitVec 32) (Sl : ℕ → ℕ) (r : Fin 2) (p : Bool) (n : ℕ) : sProp 𝕄 :=
  iprop(GF d L q xt qf Sl (!p) (ch (n + 1)) ∗ xPts d L p (chunkOf xt Sl (ch n)) ∗ semVal (VT d L, SemLoc.dma (stSem p)) 0 ∗ semVal (VT d L, SemLoc.dma (stSem (!p))) 0
    ∗ (∃ fd, ⌜DAt L spec (16 * r.val + n) fd⌝ ∗ dPts d L fd) ∗ Owe d L O W0)

theorem ch_val {n : ℕ} (h : n < 16) : (ch n).val = n := Nat.mod_eq_of_lt h

theorem round_step {k' : PUnit → Pg F L α} (hS : ∀ i, Sl i ≤ 16384) (hq : ∀ y, qf y = BitVec.ofNat 32 (quarterOf Sl (y 0).val)) (r : Fin 2) (hspec : Spec L spec xt Sl r)
    (p : Bool) (n : ℕ) (hn : n < 14) :
    iprop(Mw (F := F) d L O ∗ RS d L O W0 q xt spec qf Sl r p n)
      ⊢ iprop((RS d L O W0 q xt spec qf Sl r (!p) (n + 1) -∗ W d L (k' ⟨⟩) Q) -∗ W d L (round L r p n >>= k') Q) := by
  unfold round RS
  simp only [Prog.bind_assoc]
  iintro ⟨#Hmw, Hg, Hx, Hv, Hv', ⟨%fd, %hfd, Hd⟩, HO⟩ Hk
  iapply (store_start d L r p (ch n) (chunkOf xt Sl (ch n)) fd) $$ [Hx Hd Hv]
  · isplitl [Hx]; · iexact Hx
    isplitl [Hd]; · iexact Hd
    iexact Hv
  iintro Hs
  iapply (gather_wait d L O W0 q xt (!p) (ch (n + 1))) $$ [Hg HO]
  · isplitr; · iexact Hmw
    isplitl [Hg]; · iexact Hg
    iexact HO
  iintro ⟨Ht, Hq, Hx', Hgv, HO⟩
  iapply (store_wait d L O W0 r p (ch n) (chunkOf xt Sl (ch n)) fd) $$ [Hs HO]
  · isplitr; · iexact Hmw
    isplitl [Hs]; · iexact Hs
    iexact HO
  iintro ⟨Hd, Hx, Hv, HO⟩
  iapply (gather_start d L q xt hS hq p (ch (n + 2)) (chunkOf xt Sl (ch n))) $$ [Ht Hq Hx Hgv]
  · isplitl [Ht]; · iexact Ht
    isplitl [Hq]; · iexact Hq
    isplitl [Hx]; · iexact Hx
    iexact Hgv
  iintro Hg
  iapply Hk
  rw [Bool.not_not]
  isplitl [Hg]; · iexact Hg
  isplitl [Hx']; · iexact Hx'
  isplitl [Hv']; · iexact Hv'
  isplitl [Hv]; · iexact Hv
  isplitl [Hd]
  · iexists _
    isplitr
    swap
    · iexact Hd
    · ipureintro
      exact hfd.put L r (ch n) (by rw [ch_val (by omega)]) (hspec.chunk L (ch n) (by rw [ch_val (by omega)]))
  · iexact HO

theorem rounds_step {k' : PUnit → Pg F L α} (hS : ∀ i, Sl i ≤ 16384) (hq : ∀ y, qf y = BitVec.ofNat 32 (quarterOf Sl (y 0).val)) (r : Fin 2) (hspec : Spec L spec xt Sl r)
    (n : ℕ) (hn : n ≤ 14) :
    iprop(Mw (F := F) d L O ∗ RS d L O W0 q xt spec qf Sl r false 0)
      ⊢ iprop((RS d L O W0 q xt spec qf Sl r n.bodd n -∗ W d L (k' ⟨⟩) Q) -∗ W d L (roundsTo L r n >>= k') Q) := by
  induction n generalizing k' with
  | zero =>
    rw [Nat.bodd_zero]
    iintro ⟨-, H⟩ Hk
    iapply Hk $$ H
  | succ n ih =>
    unfold roundsTo
    rw [Prog.bind_assoc]
    iintro ⟨#Hmw, H⟩ Hk
    iapply (ih (by omega)) $$ [H]
    · isplitr; · iexact Hmw
      iexact H
    iintro H
    iapply (round_step d L O W0 q xt spec hS hq r hspec n.bodd n (by omega)) $$ [H]
    · isplitr; · iexact Hmw
      iexact H
    rw [Nat.bodd_succ]
    iexact Hk

/-- The sixteen chunks of an expert: its quarter rows hold what the list names. -/
theorem chunks_step {k' : PUnit → Pg F L α} (hS : ∀ i, Sl i ≤ 16384) (hq : ∀ y, qf y = BitVec.ofNat 32 (quarterOf Sl (y 0).val)) (r : Fin 2) (hspec : Spec L spec xt Sl r)
    (f0 f1 : S128x2x128.Idx → F .f32) (fd : S131072x2x128.Idx → F .f32) (hfd : DAt L spec (16 * r.val) fd) :
    iprop(Mw (F := F) d L O ∗ tPts d q xt ∗ qPts d L qf ∗ xPts d L false f0 ∗ xPts d L true f1 ∗ dPts d L fd
        ∗ semVal (VT d L, SemLoc.dma cc0_scratch8.sem) 0 ∗ semVal (VT d L, SemLoc.dma (stSem false)) 0 ∗ semVal (VT d L, SemLoc.dma (stSem true)) 0 ∗ Owe d L O W0)
      ⊢ iprop((∀ (g0 g1 : S128x2x128.Idx → F .f32) (fd' : S131072x2x128.Idx → F .f32), ⌜DAt L spec (16 * r.val + 16) fd'⌝
            -∗ iprop(tPts d q xt ∗ qPts d L qf ∗ xPts d L false g0 ∗ xPts d L true g1 ∗ dPts d L fd'
              ∗ semVal (VT d L, SemLoc.dma cc0_scratch8.sem) 0 ∗ semVal (VT d L, SemLoc.dma (stSem false)) 0 ∗ semVal (VT d L, SemLoc.dma (stSem true)) 0 ∗ Owe d L O W0)
            -∗ W d L (k' ⟨⟩) Q) -∗ W d L (chunks L r >>= k') Q) := by
  unfold chunks
  simp only [Prog.bind_assoc]
  iintro ⟨#Hmw, Ht, Hq, H0, H1, Hd, Hg, Hv0, Hv1, HO⟩ Hk
  iapply (gather_start d L q xt hS hq false (ch 0) f0) $$ [Ht Hq H0 Hg]
  · isplitl [Ht]; · iexact Ht
    isplitl [Hq]; · iexact Hq
    isplitl [H0]; · iexact H0
    iexact Hg
  iintro Hf
  iapply (gather_wait d L O W0 q xt false (ch 0)) $$ [Hf HO]
  · isplitr; · iexact Hmw
    isplitl [Hf]; · iexact Hf
    iexact HO
  iintro ⟨Ht, Hq, H0, Hg, HO⟩
  iapply (gather_start d L q xt hS hq true (ch 1) f1) $$ [Ht Hq H1 Hg]
  · isplitl [Ht]; · iexact Ht
    isplitl [Hq]; · iexact Hq
    isplitl [H1]; · iexact H1
    iexact Hg
  iintro Hf
  iapply (rounds_step d L O W0 q xt spec hS hq r hspec 14 (by omega)) $$ [Hf H0 Hd Hv0 Hv1 HO]
  · isplitr; · iexact Hmw
    unfold RS
    isplitl [Hf]; · iexact Hf
    isplitl [H0]; · iexact H0
    isplitl [Hv0]; · iexact Hv0
    isplitl [Hv1]; · iexact Hv1
    isplitl [Hd]
    · iexists fd
      isplitr
      · ipureintro; exact hfd
      · iexact Hd
    iexact HO
  unfold RS
  iintro ⟨Hf, H0, Hv0, Hv1, ⟨%fa, %hfa, Hd⟩, HO⟩
  iapply (store_start d L r false (ch 14) (chunkOf xt Sl (ch 14)) fa) $$ [H0 Hd Hv0]
  · isplitl [H0]; · iexact H0
    isplitl [Hd]; · iexact Hd
    iexact Hv0
  iintro Hs
  iapply (gather_wait d L O W0 q xt true (ch 15)) $$ [Hf HO]
  · isplitr; · iexact Hmw
    isplitl [Hf]; · iexact Hf
    iexact HO
  iintro ⟨Ht, Hq, H1, Hg, HO⟩
  iapply (store_wait d L O W0 r false (ch 14) (chunkOf xt Sl (ch 14)) fa) $$ [Hs HO]
  · isplitr; · iexact Hmw
    isplitl [Hs]; · iexact Hs
    iexact HO
  iintro ⟨Hd, H0, Hv0, HO⟩
  have hfb := hfa.put L r (ch 14) rfl (hspec.chunk L (ch 14) rfl)
  iapply (store_start d L r true (ch 15) (chunkOf xt Sl (ch 15)) _) $$ [H1 Hd Hv1]
  · isplitl [H1]; · iexact H1
    isplitl [Hd]; · iexact Hd
    iexact Hv1
  iintro Hs
  iapply (store_wait d L O W0 r true (ch 15) (chunkOf xt Sl (ch 15)) _) $$ [Hs HO]
  · isplitr; · iexact Hmw
    isplitl [Hs]; · iexact Hs
    iexact HO
  iintro ⟨Hd, H1, Hv1, HO⟩
  have hfc := hfb.put L r (ch 15) rfl (hspec.chunk L (ch 15) rfl)
  iapply Hk $$ %_ %_ %_ %hfc
  isplitl [Ht]; · iexact Ht
  isplitl [Hq]; · iexact Hq
  isplitl [H0]; · iexact H0
  isplitl [H1]; · iexact H1
  isplitl [Hd]; · iexact Hd
  isplitl [Hg]; · iexact Hg
  isplitl [Hv0]; · iexact Hv0
  isplitl [Hv1]; · iexact Hv1
  iexact HO

end Rules

end Cert.Proof.Dispatch

end
-- ==== Proof.Phase.lean ====
/-
  One expert's work as a program, and the kernel's body as the two tables' fetches and two experts' work.
-/
module

public import proofs.«01_k».proof.Proof.Loops
public import proofs.«01_k».proof.Proof.Rounds

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Progs

variable [FloatOps F] (L : grid0.Coords)

/-- The semaphores of the metadata's and of the total's copies. -/
def mSem : Fin 2 → DmaSem sig
  | 0 => cc0_scoped2.sem
  | 1 => cc0_scoped4.sem
def cSem : Fin 2 → DmaSem sig
  | 0 => cc0_scoped3.sem
  | 1 => cc0_scoped5.sem

abbrev lanes : IVec S16 32 := iota .scVector S16 32 [0] iota_S16_d0_w32_scVector
/-- The expert's number as the kernel computes it. -/
def expertW (r : Fin 2) : BitVec 32 :=
  Scalar.addi (Scalar.muli (Scalar.addi (Scalar.muli (BitVec.ofNat 32 (L 1).val) 2#32) (BitVec.ofNat 32 (L 0).val)) 2#32) (BitVec.ofNat 32 r.val)

abbrev metaOut (r : Fin 2) : Memref sig .scVector .hbm S4096 .f32 :=
  aM.slice (Rect.unit (s := S262144) (k0_off5 L (BitVec.ofNat 32 r.val)) S4096.size (k0_off5_inb L r)) (fun _ => rfl)
abbrev cntOut (r : Fin 2) : Memref sig .scVector .hbm S16 .i32 :=
  aC.slice (Rect.unit (s := S1024) (k0_off9 L (BitVec.ofNat 32 r.val)) S16.size (k0_off9_inb L r)) (fun _ => rfl)

abbrev cntRect : Rect S16 := Rect.unit (s := S16) ![0] S16.size inb_S16_S16_0

/-- One expert: its slots, its metadata, its quarter rows and its total. -/
def phase (r : Fin 2) : Pg F L PUnit := do
  let _ ← Scf.Loop.for k0_t1_loop k0_t1_ok 0#32 (k0_t1_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5)
  let n ← Scf.Loop.for k0_t2_loop k0_t2_ok 0#32 (scanBody (F := F) L (expertW L r))
  let _ ← Scf.Loop.for k0_t3_loop k0_t3_ok 0#32 (k0_t3_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5)
  let _ ← Scf.Loop.for k0_t4_loop k0_t4_ok 0#32 (metaBody (F := F) L lanes (broadcast S16 (Scalar.minsi n 512#32)) (sitofp .f32 (broadcast S16 (expertW L r))))
  Prog.lift (.enqueueDma bM (.here (metaOut L r)) (.dma (mSem r)) (Memref.isWhole_whole cc0_scratch6).wordExact (View.wordExact_bits rfl) ⟨Or.inl rfl, trivial⟩)
  Prog.lift (.waitDma2 (mSem r) bM (metaOut L r) (Memref.isWhole_whole cc0_scratch6).wordExact (View.wordExact_bits rfl))
  let _ ← Scf.Loop.for k0_t5_loop k0_t5_ok 0#32 (k0_t5_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 lanes (expertW L r) k0_pay39)
  let _ ← Scf.Loop.for k0_t6_loop k0_t6_ok 0#32 (k0_t6_body (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 lanes (expertW L r) k0_pay39)
  chunks L r
  let _ ← Prog.lift (.load bC cntRect.toLoadRect (View.loadsAt_vmem h_S16))
  Prog.lift (.store bC cntRect (broadcast S16 n) Finset.univ (View.stores_vmem_bits_univ h_S16 rfl) (.inl rfl))
  Prog.lift (.enqueueDma bC (.here (cntOut L r)) (.dma (cSem r)) (Memref.isWhole_whole cc0_scratch7).wordExact (View.wordExact_bits rfl) ⟨Or.inl rfl, trivial⟩)
  Prog.lift (.waitDma2 (cSem r) bC (cntOut L r) (Memref.isWhole_whole cc0_scratch7).wordExact (View.wordExact_bits rfl))

/-- A vector subcore's task: the two tables fetched, then its two experts. -/
def body : Pg F L PUnit := do
  Prog.lift (.enqueueDma aI (.here bI) (.dma cc0_scoped0.sem) (Memref.isWhole_whole main_v3_scv).wordExact (Memref.isWhole_whole cc0_scratch0).wordExact ⟨Or.inl rfl, trivial⟩)
  Prog.lift (.waitDma2 cc0_scoped0.sem aI bI (Memref.isWhole_whole main_v3_scv).wordExact (Memref.isWhole_whole cc0_scratch0).wordExact)
  Prog.lift (.enqueueDma aW (.here bW) (.dma cc0_scoped1.sem) (Memref.isWhole_whole main_v4_scv).wordExact (Memref.isWhole_whole cc0_scratch1).wordExact ⟨Or.inl rfl, trivial⟩)
  Prog.lift (.waitDma2 cc0_scoped1.sem aW bW (Memref.isWhole_whole main_v4_scv).wordExact (Memref.isWhole_whole cc0_scratch1).wordExact)
  phase L 0
  phase L 1

set_option maxRecDepth 65536 in
set_option maxHeartbeats 4000000 in
theorem kernel_eq : cc0__dispatch_kernel (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5 = body L := by
  simp only [cc0__dispatch_kernel_eq_skeleton, cc0__dispatch_kernel_skel, k0_part23_eq_skeleton, k0_part23_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel,
    body, phase, chunks, roundsTo, round, gatherStart, gatherWait, storeStart, storeWait,
    Prog.bind_assoc, Prog.lift, Prog.bind_op, Prog.bind_ret, Prog.pure_eq_ret, SparseCore.waitIndirectGather]
  rfl

end Progs

/-! ## What the three results hold -/

abbrev eOf (n : ℕ) : BitVec 32 := BitVec.ofNat 32 n

/-- The dispatched quarter rows. -/
def dFin (A : S16384.Idx → BitVec 32) (xt : S32800x2x128.Idx → F .f32) : S131072x2x128.Idx → F .f32 := fun y =>
  xt (tix (quarterOf (slotOf A (eOf ((y 0).val / 2048))) ((y 0).val % 2048)) (y 1) (y 2))

/-- The metadata. -/
def mFin [FloatOps F] (A : S16384.Idx → BitVec 32) (w : S16384.Idx → F .f32) : S262144.Idx → F .f32 := fun y =>
  if (y 0).val % 4096 / 8 < min (cnt A (eOf ((y 0).val / 4096)) 16384) 512 then
    metaVal (BitVec.ofNat 32 (slotOf A (eOf ((y 0).val / 4096)) ((y 0).val % 4096 / 8))) (eOf ((y 0).val / 4096))
      (wAt w (slotOf A (eOf ((y 0).val / 4096)) ((y 0).val % 4096 / 8))) ((y 0).val % 8)
  else unfilled

/-- The totals. -/
def cFin (A : S16384.Idx → BitVec 32) : S1024.Idx → BitVec 32 := fun y => BitVec.ofNat 32 (cnt A (eOf ((y 0).val / 16)) 16384)

section Rules

variable [FloatOps F] (d : Dev nD) (L : grid0.Coords) {α : Type} {Q : α → sProp (MT nD τ sig (HIx 1) (Elt F) ℕ UU ℕ)}
variable (O : CellTallies nD τ sig (HIx 1)) (W0 : Waits sig (HIx 1))
variable (q : PosShare TreeShare) (A : S16384.Idx → BitVec 32) (w : S16384.Idx → F .f32) (xt : S32800x2x128.Idx → F .f32)

theorem expertW_eq (r : Fin 2) : expertW L r = eOf (4 * (L 1).val + 2 * (L 0).val + r.val) := by
  have h0 : (L 0).val < 2 := (L 0).isLt
  have h1 : (L 1).val < 16 := (L 1).isLt
  have hr := r.isLt
  show (BitVec.ofNat 32 (L 1).val * 2#32 + BitVec.ofNat 32 (L 0).val) * 2#32 + BitVec.ofNat 32 r.val = _
  apply BitVec.eq_of_toNat_eq
  simp only [BitVec.toNat_add, BitVec.toNat_mul, BitVec.toNat_ofNat]
  omega

theorem dFin_spec (r : Fin 2) : Spec L (dFin A xt) xt (slotOf A (expertW L r)) r := by
  intro y n hn hy
  have h0 : (L 0).val < 2 := (L 0).isLt
  have h1 : (L 1).val < 16 := (L 1).isLt
  have hr := r.isLt
  have e1 : (y 0).val / 2048 = 4 * (L 1).val + 2 * (L 0).val + r.val := by omega
  have e2 : (y 0).val % 2048 = n := by omega
  unfold dFin
  rw [e1, e2, expertW_eq]

/-- The metadata's and the totals' parts of one subcore. -/
def mSet : Finset S262144.Idx := Finset.univ.filter fun y => (y 0).val / 8192 = 2 * (L 1).val + (L 0).val
def cSet : Finset S1024.Idx := Finset.univ.filter fun y => (y 0).val / 32 = 2 * (L 1).val + (L 0).val

abbrev moPts (f : S262144.Idx → F .f32) : sProp 𝕄 := mLoc d ↦[mSet L]{fullShare} (f : Buf (Elt F) (mLoc d))
abbrev coPts (f : S1024.Idx → BitVec 32) : sProp 𝕄 := cLoc d ↦[cSet L]{fullShare} (f : Buf (Elt F) (cLoc d))

def MAt (n : ℕ) (f : S262144.Idx → F .f32) : Prop :=
  ∀ y : S262144.Idx, 16384 * (L 1).val + 8192 * (L 0).val ≤ (y 0).val → (y 0).val < 16384 * (L 1).val + 8192 * (L 0).val + 4096 * n → f y = mFin A w y
def CAt (n : ℕ) (f : S1024.Idx → BitVec 32) : Prop :=
  ∀ y : S1024.Idx, 64 * (L 1).val + 32 * (L 0).val ≤ (y 0).val → (y 0).val < 64 * (L 1).val + 32 * (L 0).val + 16 * n → f y = cFin A y

theorem meta_sub (r : Fin 2) : (metaOut L r).view.set ⊆ mSet L := by
  intro y hy
  obtain ⟨x, _, rfl⟩ := Finset.mem_map.1 hy
  refine Finset.mem_filter.2 ⟨Finset.mem_univ _, ?_⟩
  have hx : (x 0).val < 4096 := (x 0).isLt
  have h0 : k0_off5 L (BitVec.ofNat 32 r.val) 0 = 16384 * (L 1).val + 8192 * (L 0).val + 4096 * r.val := congrFun (k0_off5_eq L r) 0
  show (k0_off5 L (BitVec.ofNat 32 r.val) 0 + 1 * (x 0).val) / 8192 = _
  rw [h0]
  omega

theorem cnt_sub (r : Fin 2) : (cntOut L r).view.set ⊆ cSet L := by
  intro y hy
  obtain ⟨x, _, rfl⟩ := Finset.mem_map.1 hy
  refine Finset.mem_filter.2 ⟨Finset.mem_univ _, ?_⟩
  have hx : (x 0).val < 16 := (x 0).isLt
  have h0 : k0_off9 L (BitVec.ofNat 32 r.val) 0 = 64 * (L 1).val + 32 * (L 0).val + 16 * r.val := congrFun (k0_off9_eq L r) 0
  show (k0_off9 L (BitVec.ofNat 32 r.val) 0 + 1 * (x 0).val) / 32 = _
  rw [h0]
  omega

theorem MAt.put (r : Fin 2) {fd : S262144.Idx → F .f32} (h : MAt L A w r.val fd) {g : S4096.Idx → F .f32}
    (hg : MetaAt (fun i => metaVal (BitVec.ofNat 32 (slotOf A (expertW L r) i)) (expertW L r) (wAt w (slotOf A (expertW L r) i))) (min (cnt A (expertW L r) 16384) 512) 512 0 g) :
    MAt L A w (r.val + 1) ((metaOut L r).view.write (Elt F) (fd : Buf (Elt F) (mLoc d)) g Finset.univ) := by
  intro y h1 h2
  refine (write_at (Elt F) main_v6_1_scv (k0_off5_inb L r) fd g y (k0_off5_eq L r)).trans ?_
  have hr := r.isLt
  have b0 : (L 0).val < 2 := (L 0).isLt
  have b1 : (L 1).val < 16 := (L 1).isLt
  by_cases hy : 16384 * (L 1).val + 8192 * (L 0).val + 4096 * r.val ≤ (y 0).val
  · have hin : ∀ a, (![16384 * (L 1).val + 8192 * (L 0).val + 4096 * r.val] : Fin 1 → ℕ) a ≤ (y a).val
        ∧ (y a).val < (![16384 * (L 1).val + 8192 * (L 0).val + 4096 * r.val] : Fin 1 → ℕ) a + S4096.size a := by
      intro a
      fin_cases a
      show 16384 * (L 1).val + 8192 * (L 0).val + 4096 * r.val ≤ (y 0).val ∧ (y 0).val < 16384 * (L 1).val + 8192 * (L 0).val + 4096 * r.val + 4096
      omega
    refine (dif_pos hin).trans ?_
    refine (hg _).trans ?_
    have hl : ((Rect.unitLocal (s := S262144) (off := ![16384 * (L 1).val + 8192 * (L 0).val + 4096 * r.val]) (size := S4096.size) y hin) 0).val = (y 0).val % 4096 := by
      show (y 0).val - (16384 * (L 1).val + 8192 * (L 0).val + 4096 * r.val) = _
      omega
    have he : (y 0).val / 4096 = 4 * (L 1).val + 2 * (L 0).val + r.val := by omega
    have hm : (y 0).val % 4096 % 8 = (y 0).val % 8 := by omega
    unfold mFin
    rw [he, ← expertW_eq]
    rw [hl, hm]
    refine if_congr ?_ rfl rfl
    omega
  · refine (dif_neg ?_).trans (h y h1 (by omega))
    intro hin
    have h0 : 16384 * (L 1).val + 8192 * (L 0).val + 4096 * r.val ≤ (y 0).val := (hin 0).1
    omega

theorem CAt.put (r : Fin 2) {fd : S1024.Idx → BitVec 32} (h : CAt L A r.val fd) {g : S16.Idx → BitVec 32} (hg : ∀ x, g x = BitVec.ofNat 32 (cnt A (expertW L r) 16384)) :
    CAt L A (r.val + 1) ((cntOut L r).view.write (Elt F) (fd : Buf (Elt F) (cLoc d)) g Finset.univ) := by
  intro y h1 h2
  refine (write_at (Elt F) main_v6_2_scv (k0_off9_inb L r) fd g y (k0_off9_eq L r)).trans ?_
  have hr := r.isLt
  have b0 : (L 0).val < 2 := (L 0).isLt
  have b1 : (L 1).val < 16 := (L 1).isLt
  by_cases hy : 64 * (L 1).val + 32 * (L 0).val + 16 * r.val ≤ (y 0).val
  · have hin : ∀ a, (![64 * (L 1).val + 32 * (L 0).val + 16 * r.val] : Fin 1 → ℕ) a ≤ (y a).val
        ∧ (y a).val < (![64 * (L 1).val + 32 * (L 0).val + 16 * r.val] : Fin 1 → ℕ) a + S16.size a := by
      intro a
      fin_cases a
      show 64 * (L 1).val + 32 * (L 0).val + 16 * r.val ≤ (y 0).val ∧ (y 0).val < 64 * (L 1).val + 32 * (L 0).val + 16 * r.val + 16
      omega
    refine (dif_pos hin).trans ((hg _).trans ?_)
    have he : (y 0).val / 16 = 4 * (L 1).val + 2 * (L 0).val + r.val := by omega
    unfold cFin
    rw [he, ← expertW_eq]
  · refine (dif_neg ?_).trans (h y h1 (by omega))
    intro hin
    have h0 : 64 * (L 1).val + 32 * (L 0).val + 16 * r.val ≤ (y 0).val := (hin 0).1
    omega

/-! ## One expert -/

/-- A subcore between experts, `n` of them done. -/
def PS (n : ℕ) : sProp 𝕄 :=
  iprop(iPts d L A ∗ wPts d L w ∗ tPts d q xt ∗ (∃ f, sPts d L f) ∗ (∃ f, qPts d L f) ∗ (∃ f, xPts d L false f) ∗ (∃ f, xPts d L true f) ∗ (∃ f, mPts d L f) ∗ (∃ f, cPts d L f)
    ∗ (∃ f, ⌜DAt L (dFin A xt) (16 * n) f⌝ ∗ dPts d L f) ∗ (∃ f, ⌜MAt L A w n f⌝ ∗ moPts d L f) ∗ (∃ f, ⌜CAt L A n f⌝ ∗ coPts d L f)
    ∗ semVal (VT d L, SemLoc.dma cc0_scratch8.sem) 0 ∗ semVal (VT d L, SemLoc.dma (stSem false)) 0 ∗ semVal (VT d L, SemLoc.dma (stSem true)) 0 ∗ Owe d L O W0)

theorem slots_le (eb : BitVec 32) (i : ℕ) : slotOf A eb i ≤ 16384 := slotOf_le A eb i

set_option maxHeartbeats 2000000 in
theorem phase_step {k' : PUnit → Pg F L α} (r : Fin 2) :
    iprop(Mw (F := F) d L O ∗ PS d L O W0 q A w xt r.val ∗ semVal (VT d L, SemLoc.dma (mSem r)) 0 ∗ semVal (VT d L, SemLoc.dma (cSem r)) 0)
      ⊢ iprop((iprop(PS d L O W0 q A w xt (r.val + 1) ∗ semVal (VT d L, SemLoc.dma (mSem r)) 0 ∗ semVal (VT d L, SemLoc.dma (cSem r)) 0) -∗ W d L (k' ⟨⟩) Q)
          -∗ W d L (phase L r >>= k') Q) := by
  unfold phase PS
  simp only [Prog.bind_assoc, Prog.lift, Prog.bind_op, Prog.bind_ret]
  iintro ⟨#Hmw, ⟨HA, Hw, Ht, ⟨%fs, Hs⟩, ⟨%fq, Hq⟩, ⟨%f0, H0⟩, ⟨%f1, H1⟩, ⟨%fm, Hm⟩, ⟨%fc, Hc⟩, ⟨%fd, %hfd, Hd⟩, ⟨%fmo, %hfmo, Hmo⟩, ⟨%fco, %hfco, Hco⟩, Hg, Hv0, Hv1, HO⟩, Hvm, Hvc⟩ Hk
  iapply (fill_src d L fs) $$ Hs
  iintro %_ %s0 %hs0 Hs
  iapply (scan_src d L A (expertW L r) s0 hs0) $$ [HA Hs]
  · isplitl [HA]; · iexact HA
    iexact Hs
  iintro %s1 %hs1 HA Hs
  iapply (fill_meta d L fm) $$ Hm
  iintro %_ %m0 %hm0 Hm
  iapply (meta_rows d L A w (expertW L r) s1 (SrcAt.done A (expertW L r) hs1) m0 hm0) $$ [Hs Hw Hm]
  · isplitl [Hs]; · iexact Hs
    isplitl [Hw]; · iexact Hw
    iexact Hm
  iintro %_ %m1 %hm1 Hs Hw Hm
  have hbM : (bM.view.loc (VT d L) ↦[bM.view.set]{fullShare} (m1 : Buf (Elt F) ((VT d L).loc cc0_scratch6)) : sProp 𝕄) = mPts d L m1 :=
    congrArg (fun S => ((VT d L).loc cc0_scratch6 ↦[S]{fullShare} (m1 : Buf (Elt F) ((VT d L).loc cc0_scratch6)) : sProp 𝕄)) (View.set_whole _)
  iapply (sync_copy d L O W0 (sem := mSem r) (src := bM) (dst := metaOut L r) (q := fullShare) (fs := m1) (Sd := mSet L) (fd := fmo) (by decide) (meta_sub L r)) $$ [Hm Hmo Hvm HO]
  · isplitr; · iexact Hmw
    isplitl [Hm]; · iapply (Entails.of_eq hbM.symm); iexact Hm
    isplitl [Hmo]; · iexact Hmo
    isplitl [Hvm]; · iexact Hvm
    iexact HO
  iintro ⟨Hmo, Hm, Hvm, HO⟩
  have hmo := hfmo.put L A w r hm1
  iapply (shift_src d L (slotOf A (expertW L r)) (slotOf_le A (expertW L r)) lanes (expertW L r) s1 (SrcAt.done A (expertW L r) hs1)) $$ Hs
  iintro %_ %s2 %hs2 Hs
  iapply (list_quarters d L (slotOf A (expertW L r)) (slotOf_le A (expertW L r)) (expertW L r) k0_pay39 s2 hs2 fq) $$ [Hs Hq]
  · isplitl [Hs]; · iexact Hs
    iexact Hq
  iintro %_ %q1 %hq1 Hs Hq
  iapply (chunks_step d L O W0 q xt (dFin A xt) (slotOf_le A (expertW L r)) hq1 r (dFin_spec L A xt r) f0 f1 fd hfd) $$ [Ht Hq H0 H1 Hd Hg Hv0 Hv1 HO]
  · isplitr; · iexact Hmw
    isplitl [Ht]; · iexact Ht
    isplitl [Hq]; · iexact Hq
    isplitl [H0]; · iexact H0
    isplitl [H1]; · iexact H1
    isplitl [Hd]; · iexact Hd
    isplitl [Hg]; · iexact Hg
    isplitl [Hv0]; · iexact Hv0
    isplitl [Hv1]; · iexact Hv1
    iexact HO
  iintro %g0 %g1 %fd' %hfd' ⟨Ht, Hq, H0, H1, Hd, Hg, Hv0, Hv1, HO⟩
  iapply (load_cnt d L fc) $$ Hc
  iintro Hc
  iapply (store_cnt d L fc) $$ Hc
  iintro Hc
  generalize hcv : (bC.access cntRect).write (Elt F) fc (broadcast S16 (BitVec.ofNat 32 (cnt A (expertW L r) 16384))) Finset.univ = c1
  have hc1 : ∀ x : S16.Idx, c1 x = BitVec.ofNat 32 (cnt A (expertW L r) 16384) := by
    intro x
    rw [← hcv]
    refine (write_at (Elt F) cc0_scratch7 inb_S16_S16_0 fc _ x rfl).trans ?_
    refine dif_pos ?_
    intro a
    fin_cases a
    have hx : (x 0).val < 16 := (x 0).isLt
    show 0 ≤ (x 0).val ∧ (x 0).val < 0 + 16
    omega
  have hbC : (bC.view.loc (VT d L) ↦[bC.view.set]{fullShare} (c1 : Buf (Elt F) ((VT d L).loc cc0_scratch7)) : sProp 𝕄) = cPts d L c1 :=
    congrArg (fun S => ((VT d L).loc cc0_scratch7 ↦[S]{fullShare} (c1 : Buf (Elt F) ((VT d L).loc cc0_scratch7)) : sProp 𝕄)) (View.set_whole _)
  iapply (sync_copy d L O W0 (sem := cSem r) (src := bC) (dst := cntOut L r) (q := fullShare) (fs := c1) (Sd := cSet L) (fd := fco) (by decide) (cnt_sub L r)) $$ [Hc Hco Hvc HO]
  · isplitr; · iexact Hmw
    isplitl [Hc]; · iapply (Entails.of_eq hbC.symm); iexact Hc
    isplitl [Hco]; · iexact Hco
    isplitl [Hvc]; · iexact Hvc
    iexact HO
  iintro ⟨Hco, Hc, Hvc, HO⟩
  have hco := CAt.put (F := F) L A r hfco hc1
  iapply Hk
  isplitr [Hvm Hvc]
  swap
  · isplitl [Hvm]; · iexact Hvm
    iexact Hvc
  isplitl [HA]; · iexact HA
  isplitl [Hw]; · iexact Hw
  isplitl [Ht]; · iexact Ht
  isplitl [Hs]; · iexists _; iexact Hs
  isplitl [Hq]; · iexists _; iexact Hq
  isplitl [H0]; · iexists _; iexact H0
  isplitl [H1]; · iexists _; iexact H1
  isplitl [Hm]; · iexists m1; iapply (Entails.of_eq hbM); iexact Hm
  isplitl [Hc]; · iexists c1; iapply (Entails.of_eq hbC); iexact Hc
  isplitl [Hd]
  · iexists fd'
    isplitr
    · ipureintro; exact hfd'
    · iexact Hd
  isplitl [Hmo]
  · iexists _
    isplitr
    swap
    · iexact Hmo
    · ipureintro; exact hmo
  isplitl [Hco]
  · iexists _
    isplitr
    swap
    · iexact Hco
    · ipureintro; exact hco
  isplitl [Hg]; · iexact Hg
  isplitl [Hv0]; · iexact Hv0
  isplitl [Hv1]; · iexact Hv1
  iexact HO

end Rules

end Cert.Proof.Dispatch

end
-- ==== Proof.Counts.lean ====
/-
  The words the reference's stages hold: one-hot words, counts, counts before a chip, running counts, as counts of the
  assignments before a position in the flat index array.
-/
module

public import proofs.«01_k».proof.Proof.Stages
public import proofs.«01_k».proof.Proof.Scan
public import proofs.«01_k».proof.Proof.Phase

@[expose] public section

noncomputable section

namespace Cert.Proof.Plain

open Cert.ReferenceIdeal Cert.ReferenceIdeal.Gen
open Cert.Proof.Dispatch (elemAt Hit cnt eOf cnt_succ cnt_mono cnt_zero cnt_le)
open Idealize.ShloMosaic Idealize.ShloMosaic.TcCoe Idealize.SL.Sem Idealize.ShloMosaic.ValueIdx

section Sums

variable (A : Cert.KernelIdeal.S16384.Idx → BitVec 32) (e : BitVec 32)

/-- One for a matching assignment, zero for another. -/
def bit (p : ℕ) : ℕ := if Hit A e p then 1 else 0

theorem sum_bits (s k : ℕ) : ((List.range k).map fun i => bit A e (s + i)).sum = cnt A e (s + k) - cnt A e s := by
  induction k with
  | zero => simp
  | succ k ih =>
    have h1 := cnt_mono A e (Nat.le_add_right s k)
    rw [List.range_succ, List.map_append, List.sum_append, ih, List.map_singleton, List.sum_singleton, ← Nat.add_assoc, cnt_succ]
    unfold bit
    split <;> omega

theorem sum_chips (c : ℕ) :
    ((List.range c).map fun i => cnt A e (4096 * i + 4096) - cnt A e (4096 * i)).sum = cnt A e (4096 * c) := by
  induction c with
  | zero => simp [cnt_zero]
  | succ c ih =>
    have h1 := cnt_mono A e (Nat.le_add_right (4096 * c) 4096)
    rw [List.range_succ, List.map_append, List.sum_append, ih, List.map_singleton, List.sum_singleton, Nat.mul_succ]
    omega

/-- A wrapping sum of words of naturals is the word of their sum. -/
theorem fold_ofNat {N : ℕ} (f : Fin N → BitVec 32) (g : ℕ → ℕ) (h : ∀ i : Fin N, f i = BitVec.ofNat 32 (g i.val)) :
    (Finset.univ : Finset (Fin N)).fold IntOp.addi 0#32 f = BitVec.ofNat 32 ((List.range N).map g).sum := by
  have h1 : (Finset.univ : Finset (Fin N)).fold IntOp.addi 0#32 f = ∑ i : Fin N, f i := rfl
  rw [h1, Routing.ofNat_sum_range, Finset.sum_range]
  exact Finset.sum_congr rfl fun i _ => h i

end Sums

/-- The running sum's window, one column high as a chip's assignments. -/
abbrev colW : Shape := ⟨3, ![1, 4096, 1]⟩
theorem colW_numel : colW.numel = 4096 := by decide

variable {a : IVec S4x2048x2 32} {A : Cert.KernelIdeal.S16384.Idx → BitVec 32}

/-- The flat index array is the chips' assignments one after the other. -/
def FlatIs (a : IVec S4x2048x2 32) (A : Cert.KernelIdeal.S16384.Idx → BitVec 32) : Prop :=
  ∀ (c : Fin 4) (n : Fin 4096), flat a (ix2 c n) = elemAt A (4096 * c.val + n.val)

variable (hA : FlatIs a A)
include hA

theorem oneHot_at (c : Fin 4) (n : Fin 4096) (e : Fin 64) :
    oneHot a (ix3 c n e) = BitVec.ofNat 32 (bit A (eOf e.val) (4096 * c.val + n.val)) := by
  have h1 : ∀ h h', broadcastInDim S4x4096x64 ![0, 1, 2] h (broadcastInDim S4x4096x1 ![0, 1] h' (flat a)) (ix3 c n e)
      = elemAt A (4096 * c.val + n.val) := fun h h' => by
    rw [broadcastInDim_apply _ _ _ _ (ix3 c n (0 : Fin 1)) (fun b => by fin_cases b <;> rfl),
      broadcastInDim_apply _ _ _ _ (ix2 c n) (fun b => by fin_cases b <;> rfl), hA]
  have h2 : ∀ h, broadcastInDim S4x4096x64 ![0, 1, 2] h (iotaInDim S1x1x64 32 2) (ix3 c n e) = eOf e.val := fun h => by
    rw [broadcastInDim_apply _ _ _ _ (ix3 (0 : Fin 1) (0 : Fin 1) e) (fun b => by fin_cases b <;> rfl)]
    rfl
  show (IntOp.cmpi .eq (broadcastInDim S4x4096x64 ![0, 1, 2] _ (broadcastInDim S4x4096x1 ![0, 1] _ (flat a)) (ix3 c n e))
    (broadcastInDim S4x4096x64 ![0, 1, 2] _ (iotaInDim S1x1x64 32 2) (ix3 c n e))).setWidth 32 = _
  rw [h1, h2, WordCmp.cmpi_eq_eq]
  have hp : 4096 * c.val + n.val < 16384 := by omega
  unfold bit
  by_cases hh : elemAt A (4096 * c.val + n.val) = eOf e.val
  · rw [if_pos ⟨hp, hh⟩, decide_eq_true hh]; rfl
  · rw [if_neg fun q => hh q.2, decide_eq_false hh]; rfl

theorem counts_at (c : Fin 4) (e : Fin 64) :
    counts a (ix2 c e) = BitVec.ofNat 32 (cnt A (eOf e.val) (4096 * c.val + 4096) - cnt A (eOf e.val) (4096 * c.val)) := by
  unfold counts
  rw [Host.reduce_eq_fold_single _ _ _ _ (by decide)]
  rw [← sum_bits]
  refine (fold_ofNat _ (fun i => bit A (eOf e.val) (4096 * c.val + i)) fun i => ?_)
  show oneHot a _ = _
  rw [← oneHot_at hA c i e]
  congr 1
  funext b
  fin_cases b <;> rfl

theorem cumCounts_at (c : Fin 4) (e : Fin 64) :
    cumCounts a (ix2 c e) = BitVec.ofNat 32 (cnt A (eOf e.val) (4096 * c.val + 4096)) := by
  unfold cumCounts
  refine (Routing.cumsum_rows (R := 4) (Rm1 := 3) (C := 64) rfl (counts a) (fun i e => cnt A (eOf e) (4096 * i + 4096) - cnt A (eOf e) (4096 * i)) (counts_at hA) _ rfl _ _ c e).trans ?_
  rw [sum_chips, Nat.mul_succ]

theorem base_at (c : Fin 4) (e : Fin 64) : base a (ix2 c e) = BitVec.ofNat 32 (cnt A (eOf e.val) (4096 * c.val)) := by
  unfold base
  by_cases hc : c.val = 0
  · refine (concatenate_pair_apply_left (t := S4x64) (s₁ := S1x64) 0 _ _ _ (ix2 c e) rfl (ix2 (0 : Fin 1) e) (fun b => ?_)).trans ?_
    · fin_cases b
      · exact hc.symm
      · rfl
    · rw [hc, Nat.mul_zero, cnt_zero]
      rfl
  · have hc4 := c.isLt
    refine (concatenate_pair_apply_right (t := S4x64) (s₁ := S1x64) (s₂ := S3x64) 0 _ _ _ (ix2 c e) rfl rfl
      (ix2 (⟨c.val - 1, by omega⟩ : Fin 3) e) (fun b hb => ?_) (show c.val - 1 + 1 = c.val by omega)).trans ?_
    · fin_cases b
      · exact absurd rfl hb
      · rfl
    refine Eq.trans ?_ ((cumCounts_at hA ⟨c.val - 1, by omega⟩ e).trans ?_)
    · show cumCounts a _ = _
      congr 1
      funext b
      fin_cases b
      · exact Fin.ext (Nat.zero_add _)
      · exact Fin.ext (Nat.zero_add _)
    · rw [show 4096 * (c.val - 1) + 4096 = 4096 * c.val by omega]

omit hA in
/-- Position `n` of the running sum's window is `(0, n, 0)`. -/
theorem window_at (n : Fin colW.numel) (b : Fin 3) : (colW.rowMajor.symm n b).val = if b = 1 then n.val else 0 := by
  have hn : n.val < 4096 := lt_of_lt_of_eq n.isLt colW_numel
  have h : colW.rowMajor.symm n = ix3 (0 : Fin 1) (⟨n.val, hn⟩ : Fin 4096) (0 : Fin 1) := by
    rw [Equiv.symm_apply_eq]
    refine Fin.ext ?_
    rw [Shape.rowMajor_val_three]
    show n.val = (0 * 4096 + n.val) * 1 + 0
    omega
  rw [h]
  fin_cases b <;> rfl

/-- The running sum along the middle axis: entry `(c, j, e)` holds the sum of the entries `(c, 0 … j, e)`. -/
theorem running_at (c : Fin 4) (j : Fin 4096) (e : Fin 64) :
    running a (ix3 c j e) = BitVec.ofNat 32 (cnt A (eOf e.val) (4096 * c.val + (j.val + 1)) - cnt A (eOf e.val) (4096 * c.val)) := by
  have hj := j.isLt
  have hc := c.isLt
  have he := e.isLt
  rw [← sum_bits]
  unfold running Host.reduceWindow
  refine (Routing.foldl_addi_ofNat _ _ (fun n => if 4095 ≤ j.val + n.val then bit A (eOf e.val) (4096 * c.val + (j.val + n.val - 4095)) else 0)
    (fun n _ => ?_) _ 0 rfl).trans ?_
  · have hn : n.val < 4096 := lt_of_lt_of_eq n.isLt colW_numel
    have w0 : (colW.rowMajor.symm n 0).val = 0 := window_at n 0
    have w1 : (colW.rowMajor.symm n 1).val = n.val := window_at n 1
    have w2 : (colW.rowMajor.symm n 2).val = 0 := window_at n 2
    dsimp only
    split
    · next hin =>
      have h1 := hin 1
      change 4095 ≤ j.val * 1 + (colW.rowMajor.symm n 1).val ∧ j.val * 1 + (colW.rowMajor.symm n 1).val - 4095 < 4096 at h1
      rw [w1] at h1
      rw [if_pos (by omega), ← oneHot_at hA c ⟨j.val + n.val - 4095, by omega⟩ e]
      refine congrArg (oneHot a) (funext fun b => Fin.ext ?_)
      match b with
      | ⟨0, _⟩ => exact (show c.val * 1 + (colW.rowMajor.symm n 0).val - 0 = c.val by rw [w0]; omega)
      | ⟨1, _⟩ => exact (show j.val * 1 + (colW.rowMajor.symm n 1).val - 4095 = j.val + n.val - 4095 by rw [w1]; omega)
      | ⟨2, _⟩ => exact (show e.val * 1 + (colW.rowMajor.symm n 2).val - 0 = e.val by rw [w2]; omega)
    · next hin =>
      rw [if_neg fun hle => hin fun b => by
        match b with
        | ⟨0, _⟩ => exact (show 0 ≤ c.val * 1 + (colW.rowMajor.symm n 0).val ∧ c.val * 1 + (colW.rowMajor.symm n 0).val - 0 < 4 by rw [w0]; omega)
        | ⟨1, _⟩ => exact (show 4095 ≤ j.val * 1 + (colW.rowMajor.symm n 1).val ∧ j.val * 1 + (colW.rowMajor.symm n 1).val - 4095 < 4096 by rw [w1]; omega)
        | ⟨2, _⟩ => exact (show 0 ≤ e.val * 1 + (colW.rowMajor.symm n 2).val ∧ e.val * 1 + (colW.rowMajor.symm n 2).val - 0 < 64 by rw [w2]; omega)]
      rfl
  · rw [Nat.zero_add, Routing.map_finRange_val _ (fun w => if 4095 ≤ j.val + w then bit A (eOf e.val) (4096 * c.val + (j.val + w - 4095)) else 0)]
    refine congrArg (BitVec.ofNat 32) (Eq.trans ?_ (Routing.sum_window (fun i => bit A (eOf e.val) (4096 * c.val + i)) 4095 j.val (by omega)))
    exact congrArg (fun M => ((List.range M).map fun w => if 4095 ≤ j.val + w then bit A (eOf e.val) (4096 * c.val + (j.val + w - 4095)) else 0).sum) colW_numel

end Cert.Proof.Plain

end
-- ==== Proof.Takes.lean ====
/-
  The reference's two takes at every assignment's expert, its place in that expert's buffer, and its row.
-/
module

public import proofs.«01_k».proof.Proof.Counts

@[expose] public section

noncomputable section

namespace Cert.Proof.Plain

open Cert.ReferenceIdeal Cert.ReferenceIdeal.Gen
open Cert.Proof.Dispatch (elemAt Hit cnt eOf cnt_succ cnt_mono cnt_zero cnt_le)
open Idealize.ShloMosaic Idealize.ShloMosaic.TcCoe Idealize.SL.Sem Idealize.ShloMosaic.ValueIdx

/-- A nonnegative index is not wrapped around. -/
theorem wrap_small {x : BitVec 32} (h : x.toNat < 2 ^ 31) (y : BitVec 32) : Scalar.select (IntOp.cmpi .slt x 0#32) y x = x := by
  unfold Scalar.select
  rw [if_neg]
  show ¬IntOp.cmpi .slt x 0#32 = 1#1
  rw [IntOp.cmpi_slt, WordCmp.toInt_eq_toNat_of_lt_half h]
  simp

/-- An index below 64 passes the takes' range test. -/
theorem in_range {x : BitVec 32} (h : x.toNat < 64) : IntOp.andi (IntOp.cmpi .sge x 0#32) (IntOp.cmpi .sle x 63#32) = 1#1 := by
  rw [IntOp.andi_eq_one, IntOp.cmpi_sge, IntOp.cmpi_sle, WordCmp.toInt_eq_toNat_of_lt_half (show x.toNat < 2 ^ 31 by omega)]
  refine ⟨by simp, ?_⟩
  show (x.toNat : Int) ≤ 63
  omega

theorem select_one {s : Shape} {α : Type} (m : IVec s 1) (x y : s.Idx → α) (i : s.Idx) (h : m i = 1#1) : select m x y i = x i := by
  show (if m i = 1 then x i else y i) = x i
  exact if_pos h

variable {a : IVec S4x2048x2 32} {A : Cert.KernelIdeal.S16384.Idx → BitVec 32}
variable (hA : FlatIs a A) (hlt : ∀ p, p < 16384 → (elemAt A p).toNat < 64)

/-- The index array's words are experts. -/
theorem eOf_elem {p : ℕ} : eOf (elemAt A p).toNat = elemAt A p := by
  unfold eOf
  rw [BitVec.ofNat_toNat, BitVec.setWidth_eq]

include hA hlt

theorem starts2_at (i : S4x4096x1.Idx) : starts2 a i = elemAt A (4096 * (i 0).val + (i 1).val) := by
  have h0 : (i 0).val < 4 := (i 0).isLt
  have h1 : (i 1).val < 4096 := (i 1).isLt
  have h2 : (i 2).val < 1 := (i 2).isLt
  have hw := hlt (4096 * (i 0).val + (i 1).val) (by omega)
  unfold starts2
  rw [shapeCast_apply _ _ i (ix2 (⟨(i 0).val, h0⟩ : Fin 4) (⟨(i 1).val, h1⟩ : Fin 4096)) (by
    rw [Shape.rowMajor_val_two, Shape.rowMajor_val_three]
    show (i 0).val * 4096 + (i 1).val = ((i 0).val * 4096 + (i 1).val) * 1 + (i 2).val
    omega)]
  show Scalar.select (IntOp.cmpi .slt (flat a (ix2 _ _)) 0#32) _ (flat a (ix2 _ _)) = _
  rw [hA]
  exact wrap_small (show (elemAt A (4096 * (i 0).val + (i 1).val)).toNat < 2 ^ 31 by omega) _

theorem baseAt_at (c : Fin 4) (n : Fin 4096) :
    baseAt a (ix2 c n) = BitVec.ofNat 32 (cnt A (elemAt A (4096 * c.val + n.val)) (4096 * c.val)) := by
  have hw := hlt (4096 * c.val + n.val) (by omega)
  unfold baseAt
  show Scalar.select (Host.reduce IntOp.andi _ _ _ _ (ix2 c n)) (Host.gather _ (base a) (starts2 a) (ix2 c n)) _ = _
  rw [Host.reduce_andi_one _ _ _ _ _ rfl (fun i => by
    show IntOp.andi (IntOp.cmpi .sge (starts2 a i) 0#32) (IntOp.cmpi .sle (starts2 a i) 63#32) = 1#1
    rw [starts2_at hA hlt]
    have h0 : (i 0).val < 4 := (i 0).isLt
    have h1 : (i 1).val < 4096 := (i 1).isLt
    exact in_range (hlt (4096 * (i 0).val + (i 1).val) (by omega)))]
  show Host.gather _ (base a) (starts2 a) (ix2 c n) = _
  rw [← eOf_elem (A := A) (p := 4096 * c.val + n.val)]
  refine Eq.trans ?_ (base_at hA c ⟨(elemAt A (4096 * c.val + n.val)).toNat, hw⟩)
  refine congrArg (base a) (funext fun b => Fin.ext ?_)
  match b with
  | ⟨0, _⟩ => exact (show 0 + c.val + 0 = c.val by omega)
  | ⟨1, _⟩ =>
    have e : starts2 a (ix3 c n (0 : Fin 1)) = elemAt A (4096 * c.val + n.val) := starts2_at hA hlt (ix3 c n (0 : Fin 1))
    have hs : gather_S4x64_S4x4096x1_S4x4096_n_1_0_0_1_2_11.siIdx (ix2 c n) (0 : Fin 1) = ix3 c n (0 : Fin 1) := by
      funext b
      fin_cases b <;> rfl
    show min (starts2 a (gather_S4x64_S4x4096x1_S4x4096_n_1_0_0_1_2_11.siIdx (ix2 c n) (0 : Fin 1))).toInt.toNat 63 + 0 + 0 = (elemAt A (4096 * c.val + n.val)).toNat
    rw [hs, e, WordCmp.toInt_eq_toNat_of_lt_half (show (elemAt A (4096 * c.val + n.val)).toNat < 2 ^ 31 by omega)]
    omega

theorem starts3_at (i : S4x4096x1x1.Idx) : starts3 a i = elemAt A (4096 * (i 0).val + (i 1).val) := by
  have h0 : (i 0).val < 4 := (i 0).isLt
  have h1 : (i 1).val < 4096 := (i 1).isLt
  have h2 : (i 2).val < 1 := (i 2).isLt
  have h3 : (i 3).val < 1 := (i 3).isLt
  have hw := hlt (4096 * (i 0).val + (i 1).val) (by omega)
  have hf : flat3 a (ix3 (⟨(i 0).val, h0⟩ : Fin 4) (⟨(i 1).val, h1⟩ : Fin 4096) (0 : Fin 1)) = elemAt A (4096 * (i 0).val + (i 1).val) := by
    unfold flat3
    rw [broadcastInDim_apply _ _ _ _ (ix2 (⟨(i 0).val, h0⟩ : Fin 4) (⟨(i 1).val, h1⟩ : Fin 4096)) (fun b => by fin_cases b <;> rfl), hA]
  unfold starts3
  rw [shapeCast_apply _ _ i (ix3 (⟨(i 0).val, h0⟩ : Fin 4) (⟨(i 1).val, h1⟩ : Fin 4096) (0 : Fin 1)) (by
    rw [Shape.rowMajor_val_three, Shape.rowMajor_val_four]
    show ((i 0).val * 4096 + (i 1).val) * 1 + 0 = (((i 0).val * 4096 + (i 1).val) * 1 + (i 2).val) * 1 + (i 3).val
    omega)]
  show Scalar.select (IntOp.cmpi .slt (flat3 a (ix3 _ _ _)) 0#32) _ (flat3 a (ix3 _ _ _)) = _
  rw [hf]
  exact wrap_small (by omega) _

theorem runningAt_at (c : Fin 4) (n : Fin 4096) :
    runningAt a (ix3 c n (0 : Fin 1)) = BitVec.ofNat 32 (cnt A (elemAt A (4096 * c.val + n.val)) (4096 * c.val + (n.val + 1)) - cnt A (elemAt A (4096 * c.val + n.val)) (4096 * c.val)) := by
  have hw := hlt (4096 * c.val + n.val) (by omega)
  unfold runningAt
  refine (select_one _ _ _ _ (Host.reduce_andi_one _ _ _ _ _ rfl fun i => ?_)).trans ?_
  · show IntOp.andi (IntOp.cmpi .sge (starts3 a i) 0#32) (IntOp.cmpi .sle (starts3 a i) 63#32) = 1#1
    rw [starts3_at hA hlt]
    have h0 : (i 0).val < 4 := (i 0).isLt
    have h1 : (i 1).val < 4096 := (i 1).isLt
    exact in_range (hlt (4096 * (i 0).val + (i 1).val) (by omega))
  rw [← eOf_elem (A := A) (p := 4096 * c.val + n.val)]
  refine Eq.trans ?_ (running_at hA c n ⟨(elemAt A (4096 * c.val + n.val)).toNat, hw⟩)
  refine congrArg (running a) (funext fun b => Fin.ext ?_)
  match b with
  | ⟨0, _⟩ => exact (show 0 + c.val + 0 = c.val by omega)
  | ⟨1, _⟩ => exact (show 0 + n.val + 0 = n.val by omega)
  | ⟨2, _⟩ =>
    have e : starts3 a (ix4 c n (0 : Fin 1) (0 : Fin 1)) = elemAt A (4096 * c.val + n.val) := starts3_at hA hlt (ix4 c n (0 : Fin 1) (0 : Fin 1))
    have hs : gather_S4x4096x64_S4x4096x1x1_S4x4096x1_n_2_01_01_2_3_111.siIdx (ix3 c n (0 : Fin 1)) (0 : Fin 1) = ix4 c n (0 : Fin 1) (0 : Fin 1) := by
      funext b
      fin_cases b <;> rfl
    show min (starts3 a (gather_S4x4096x64_S4x4096x1x1_S4x4096x1_n_2_01_01_2_3_111.siIdx (ix3 c n (0 : Fin 1)) (0 : Fin 1))).toInt.toNat 63 + 0 + 0 = (elemAt A (4096 * c.val + n.val)).toNat
    rw [hs, e, WordCmp.toInt_eq_toNat_of_lt_half (show (elemAt A (4096 * c.val + n.val)).toNat < 2 ^ 31 by omega)]
    omega

/-- An assignment's place is the number of earlier assignments to its expert. -/
theorem place_at (c : Fin 4) (n : Fin 4096) :
    place a (ix2 c n) = BitVec.ofNat 32 (cnt A (elemAt A (4096 * c.val + n.val)) (4096 * c.val + n.val)) := by
  have hh : Hit A (elemAt A (4096 * c.val + n.val)) (4096 * c.val + n.val) := ⟨by omega, rfl⟩
  have h1 := cnt_mono A (elemAt A (4096 * c.val + n.val)) (Nat.le_add_right (4096 * c.val) n.val)
  have h2 := cnt_succ A (elemAt A (4096 * c.val + n.val)) (4096 * c.val + n.val)
  have h3 := cnt_le A (elemAt A (4096 * c.val + n.val)) (4096 * c.val + n.val)
  rw [if_pos hh] at h2
  unfold place
  show IntOp.addi (baseAt a (ix2 c n)) (IntOp.subi (shapeCast _ (runningAt a) _ (ix2 c n)) 1#32) = _
  rw [shapeCast_apply _ _ (ix2 c n) (ix3 c n (0 : Fin 1)) (by
    rw [Shape.rowMajor_val_two, Shape.rowMajor_val_three]
    show (c.val * 4096 + n.val) * 1 + 0 = c.val * 4096 + n.val
    omega), baseAt_at hA hlt, runningAt_at hA hlt, ← Nat.add_assoc, h2]
  show BitVec.ofNat 32 _ + (BitVec.ofNat 32 _ - 1#32) = _
  bv_omega

/-- The row of assignment `p`, the last one where its expert's buffer is full. -/
def rowNum (A : Cert.KernelIdeal.S16384.Idx → BitVec 32) (p : ℕ) : ℕ :=
  if cnt A (elemAt A p) p < 512 then 512 * (elemAt A p).toNat + cnt A (elemAt A p) p else 32768

omit hA in
theorem rowNum_lt {p : ℕ} (hp : p < 16384) : rowNum A p < 32769 := by
  have := hlt p hp
  unfold rowNum
  split <;> omega

theorem slot_at (p : Fin 16384) : slot a (ix1 p) = BitVec.ofNat 32 (rowNum A p.val) := by
  have hp := p.isLt
  obtain ⟨c, n, hcn⟩ : ∃ (c : Fin 4) (n : Fin 4096), p.val = 4096 * c.val + n.val := ⟨⟨p.val / 4096, by omega⟩, ⟨p.val % 4096, by omega⟩, by dsimp only; omega⟩
  have hw := hlt p.val hp
  have hc := cnt_le A (elemAt A p.val) p.val
  unfold slot
  rw [shapeCast_apply _ _ (ix1 p) (ix2 c n) (by
    rw [Shape.rowMajor_val_one, Shape.rowMajor_val_two]
    show c.val * 4096 + n.val = p.val
    omega)]
  show Scalar.select (IntOp.cmpi .slt (place a (ix2 c n)) 512#32) (IntOp.addi (IntOp.muli (flat a (ix2 c n)) 512#32) (place a (ix2 c n))) 32768#32 = _
  rw [place_at hA hlt, hA, ← hcn]
  rw [WordCmp.cmpi_slt_ofNat (w := 32) (b := 512) (by omega) (by omega)]
  unfold rowNum Scalar.select
  by_cases h : cnt A (elemAt A p.val) p.val < 512
  · rw [if_pos (by rw [decide_eq_true h]; rfl), if_pos h]
    show elemAt A p.val * 512#32 + BitVec.ofNat 32 _ = _
    generalize elemAt A p.val = e at *
    bv_omega
  · rw [if_neg (by rw [decide_eq_false h]; decide), if_neg h]

/-- The start index of the scatters' update `p`. -/
theorem rowOf_at (p : Fin 16384) : (rowOf a (ix2 p (0 : Fin 1))).toInt = (rowNum A p.val : Int) := by
  have hr := rowNum_lt hlt p.isLt
  have h := slot_at hA hlt p
  unfold rowOf
  rw [broadcastInDim_apply _ _ _ _ (ix1 p) (fun b => by fin_cases b; rfl)]
  show (Scalar.select (IntOp.cmpi .slt (slot a (ix1 p)) 0#32) _ (slot a (ix1 p))).toInt = _
  rw [wrap_small (by rw [h, BitVec.toNat_ofNat]; omega), h, WordCmp.toInt_ofNat_of_lt (by omega)]

end Cert.Proof.Plain

end
-- ==== Proof.Rows.lean ====
/-
  The reference's scatters: which assignment, if any, writes a row of the dispatched arrays.
-/
module

public import proofs.«01_k».proof.Proof.Takes

@[expose] public section

noncomputable section

namespace Cert.Proof.Plain

open Cert.ReferenceIdeal Cert.ReferenceIdeal.Gen
open Cert.Proof.Dispatch (elemAt Hit cnt eOf slotOf slotOf_hit exists_hit cnt_inj cnt_lt)
open Idealize.ShloMosaic Idealize.ShloMosaic.TcCoe Idealize.SL.Sem Idealize.ShloMosaic.ValueIdx

section Scatter

variable {C : ℕ} (wf : ScatterDims.WF ⟨2, ![32769, C]⟩ S16384x1 ⟨2, ![16384, C]⟩ [1] [0] [0] 1)

/-- A scatter of whole rows, one row number for each. -/
abbrev rowDims : ScatterDims ⟨2, ![32769, C]⟩ S16384x1 ⟨2, ![16384, C]⟩ where
  updateWindowDims := [1]
  insertedWindowDims := [0]
  scatterDimsToOperandDims := [0]
  indexVectorDim := 1
  wf := wf

theorem lands (idx : IVec S16384x1 32) (p : Fin 16384) (h : Fin C) (r : Fin 32769) (h' : Fin C) :
    (rowDims wf).resultIdx? (ix2 p h) idx = some (ix2 r h') ↔ (idx (ix2 p (0 : Fin 1))).toInt = (r.val : Int) ∧ h = h' := by
  have hs : (rowDims wf).siIdx (ix2 p h) (0 : Fin 1) = ix2 p (0 : Fin 1) := by
    funext b
    fin_cases b <;> rfl
  have h0 : (rowDims wf).start (ix2 p h) idx 0 = (idx (ix2 p (0 : Fin 1))).toInt := congrArg (fun k => (idx k).toInt) hs
  have h1 : (rowDims wf).start (ix2 p h) idx 1 = 0 := rfl
  have h2 : (rowDims wf).window (ix2 p h) 0 = 0 := rfl
  have h3 : (rowDims wf).window (ix2 p h) 1 = h.val := rfl
  refine (Routing.resultIdx?_ix2 (rowDims wf) (ix2 p h) idx r h').trans ?_
  rw [h0, h1, h2, h3]
  refine and_congr (by simp) ⟨fun q => Fin.ext (by omega), fun q => by rw [q]; simp⟩

variable {α : Type} (x0 : Shape.Idx ⟨2, ![32769, C]⟩ → α) (idx : IVec S16384x1 32) (upd : Shape.Idx ⟨2, ![16384, C]⟩ → α) (R : ℕ → ℕ)
  (hR : ∀ p : Fin 16384, (idx (ix2 p (0 : Fin 1))).toInt = (R p.val : Int)) (r : Fin 32769) (h : Fin C)
include hR

theorem scatter_row (p : Fin 16384) (hp : R p.val = r.val) (hu : ∀ q : Fin 16384, R q.val = r.val → q = p) :
    Host.scatter (rowDims wf) (fun _ b => b) x0 idx upd (ix2 r h) = upd (ix2 p h) := by
  refine Routing.scatter_set_hit (rowDims wf) x0 idx upd (ix2 r h) _ (fun k hk => ?_) (ix2 p h) ((lands wf idx p h r h).2 ⟨by rw [hR, hp], rfl⟩)
  obtain ⟨q, l, rfl⟩ : ∃ (q : Fin 16384) (l : Fin C), k = ix2 q l := ⟨_, _, eq_ix2 k⟩
  obtain ⟨e1, rfl⟩ := (lands wf idx q l r h).1 hk
  rw [hR] at e1
  rw [hu q (by omega)]

theorem scatter_none (hn : ∀ q : Fin 16384, R q.val ≠ r.val) :
    Host.scatter (rowDims wf) (fun _ b => b) x0 idx upd (ix2 r h) = x0 (ix2 r h) := by
  refine Routing.scatter_set_miss (rowDims wf) x0 idx upd (ix2 r h) fun k hk => ?_
  obtain ⟨q, l, rfl⟩ : ∃ (q : Fin 16384) (l : Fin C), k = ix2 q l := ⟨_, _, eq_ix2 k⟩
  have e1 := ((lands wf idx q l r h).1 hk).1
  rw [hR] at e1
  exact hn q (by omega)

end Scatter

variable {A : Cert.KernelIdeal.S16384.Idx → BitVec 32} (hlt : ∀ p, p < 16384 → (elemAt A p).toNat < 64)
include hlt

/-- Assignment `p` has row `i` of expert `e`'s buffer when it is to `e` and `i` earlier ones are. -/
theorem rowNum_eq {p e i : ℕ} (hp : p < 16384) (he : e < 64) (hi : i < 512) :
    rowNum A p = 512 * e + i ↔ Hit A (eOf e) p ∧ cnt A (eOf e) p = i := by
  have hw := hlt p hp
  constructor
  · intro h
    unfold rowNum at h
    split at h
    · next hc =>
      have he' : (elemAt A p).toNat = e := by omega
      have hee : elemAt A p = eOf e := by rw [← he', eOf_elem]
      exact ⟨⟨hp, hee⟩, by rw [← hee]; omega⟩
    · omega
  · rintro ⟨⟨-, he'⟩, hc⟩
    unfold rowNum
    rw [he', hc, if_pos hi, eOf, BitVec.toNat_ofNat]
    omega

variable {C : ℕ} (wf : ScatterDims.WF ⟨2, ![32769, C]⟩ S16384x1 ⟨2, ![16384, C]⟩ [1] [0] [0] 1)
  {α : Type} (x0 : Shape.Idx ⟨2, ![32769, C]⟩ → α) (idx : IVec S16384x1 32) (upd : Shape.Idx ⟨2, ![16384, C]⟩ → α)
  (hR : ∀ p : Fin 16384, (idx (ix2 p (0 : Fin 1))).toInt = (rowNum A p.val : Int)) {e i : ℕ} (he : e < 64) (hi : i < 512) (h : Fin C)
include hR he hi

/-- A filled row of an expert's buffer. -/
theorem scatter_filled (r : Fin 32769) (hr : r.val = 512 * e + i) (p : Fin 16384) (hp : p.val = slotOf A (eOf e) i) (hf : i < cnt A (eOf e) 16384) :
    Host.scatter (rowDims wf) (fun _ b => b) x0 idx upd (ix2 r h) = upd (ix2 p h) := by
  obtain ⟨q, hq, hq1, hq2⟩ := exists_hit A (eOf e) hf
  have hs := slotOf_hit A (eOf e) hq1
  rw [hq2, ← hp] at hs
  refine scatter_row wf x0 idx upd _ hR r h p ?_ fun q' hq' => ?_
  · rw [hr, hs]
    exact (rowNum_eq hlt hq he hi).2 ⟨hq1, hq2⟩
  · rw [hr] at hq'
    have h' := (rowNum_eq hlt q'.isLt he hi).1 hq'
    exact Fin.ext ((cnt_inj A (eOf e) h'.1 hq1 (h'.2.trans hq2.symm)).trans hs.symm)

/-- An unfilled row of an expert's buffer. -/
theorem scatter_unfilled (r : Fin 32769) (hr : r.val = 512 * e + i) (hf : cnt A (eOf e) 16384 ≤ i) :
    Host.scatter (rowDims wf) (fun _ b => b) x0 idx upd (ix2 r h) = x0 (ix2 r h) := by
  refine scatter_none wf x0 idx upd _ hR r h fun q hq => ?_
  rw [hr] at hq
  have h' := (rowNum_eq hlt q.isLt he hi).1 hq
  have := cnt_lt A (eOf e) h'.1 q.isLt
  omega

end Cert.Proof.Plain

end
-- ==== Proof.Columns.lean ====
/-
  The rows the reference scatters: the token's row of the input, and the eight metadata words, of each assignment.
-/
module

public import proofs.«01_k».proof.Proof.Rows

@[expose] public section

noncomputable section

namespace Cert.Proof.Plain

open Cert.ReferenceIdeal Cert.ReferenceIdeal.Gen
open Cert.Proof.Dispatch (elemAt fOf wAt metaVal)
open Idealize.ShloMosaic Idealize.ShloMosaic.TcCoe Idealize.SL.Sem Idealize.ShloMosaic.ValueIdx

variable {F : FTy → Type} [FloatOps F]

/-- Word `h` of the token of assignment `p`, its chip taken modulo four. -/
def xAt (x : FVec F S4x2048x1024 .f32) (p : ℕ) (h : Fin 1024) : F .f32 :=
  x (ix3 (⟨p / 4096 % 4, by omega⟩ : Fin 4) (⟨p % 4096 / 2, by omega⟩ : Fin 2048) h)

theorem xRep_at (x : FVec F S4x2048x1024 .f32) (p : Fin 16384) (h : Fin 1024) : xRep x (ix2 p h) = xAt x p.val h := by
  have hp := p.isLt
  have hc : p.val / 4096 < 4 := by omega
  have hn : p.val % 4096 < 4096 := by omega
  have ht : p.val % 4096 / 2 < 2048 := by omega
  have hk : p.val % 2 < 2 := by omega
  unfold xRep
  rw [shapeCast_apply _ _ (ix2 p h) (ix3 (⟨p.val / 4096, hc⟩ : Fin 4) (⟨p.val % 4096, hn⟩ : Fin 4096) h) (by
      rw [Shape.rowMajor_val_two, Shape.rowMajor_val_three]
      show (p.val / 4096 * 4096 + p.val % 4096) * 1024 + h.val = p.val * 1024 + h.val
      omega),
    shapeCast_apply _ _ (ix3 _ _ h) (ix4 (⟨p.val / 4096, hc⟩ : Fin 4) (⟨p.val % 4096 / 2, ht⟩ : Fin 2048) (⟨p.val % 2, hk⟩ : Fin 2) h) (by
      rw [Shape.rowMajor_val_four, Shape.rowMajor_val_three]
      show ((p.val / 4096 * 2048 + p.val % 4096 / 2) * 2 + p.val % 2) * 1024 + h.val = (p.val / 4096 * 4096 + p.val % 4096) * 1024 + h.val
      omega),
    broadcastInDim_apply _ _ _ _ (ix3 (⟨p.val / 4096, hc⟩ : Fin 4) (⟨p.val % 4096 / 2, ht⟩ : Fin 2048) h) (fun b => by fin_cases b <;> rfl)]
  unfold xAt
  refine congrArg x (congrArg (fun c => ix3 c _ h) (Fin.ext ?_))
  show p.val / 4096 = p.val / 4096 % 4
  omega

section Columns

variable (c : Fin 4) (n : Fin 4096)

theorem chipCol_at : (chipCol : FVec F S4x4096x1 .f32) (ix3 c n (0 : Fin 1)) = fOf (BitVec.ofNat 32 c.val) := rfl

theorem tokenCol_at : (tokenCol : FVec F S4x4096x1 .f32) (ix3 c n (0 : Fin 1)) = fOf (BitVec.ofNat 32 (n.val / 2)) := by
  have hn := n.isLt
  unfold tokenCol
  rw [broadcastInDim_apply _ _ _ _ (ix2 c n) (fun b => by fin_cases b <;> rfl),
    broadcastInDim_apply _ _ _ _ (ix2 (0 : Fin 1) n) (fun b => by fin_cases b <;> rfl),
    broadcastInDim_apply _ _ _ _ (ix1 n) (fun b => by fin_cases b; rfl),
    shapeCast_apply _ _ (ix1 n) (ix2 (⟨n.val / 2, by omega⟩ : Fin 2048) (⟨n.val % 2, by omega⟩ : Fin 2)) (by
      rw [Shape.rowMajor_val_two, Shape.rowMajor_val_one]
      show n.val / 2 * 2 + n.val % 2 = n.val
      omega)]
  rfl

theorem topkCol_at : (topkCol : FVec F S4x4096x1 .f32) (ix3 c n (0 : Fin 1)) = fOf (BitVec.ofNat 32 (n.val % 2)) := by
  have hn := n.isLt
  unfold topkCol
  rw [broadcastInDim_apply _ _ _ _ (ix2 c n) (fun b => by fin_cases b <;> rfl),
    broadcastInDim_apply _ _ _ _ (ix2 (0 : Fin 1) n) (fun b => by fin_cases b <;> rfl),
    broadcastInDim_apply _ _ _ _ (ix1 n) (fun b => by fin_cases b; rfl),
    shapeCast_apply _ _ (ix1 n) (ix2 (⟨n.val / 2, by omega⟩ : Fin 2048) (⟨n.val % 2, by omega⟩ : Fin 2)) (by
      rw [Shape.rowMajor_val_two, Shape.rowMajor_val_one]
      show n.val / 2 * 2 + n.val % 2 = n.val
      omega),
    broadcastInDim_apply _ _ _ _ (ix2 (0 : Fin 1) (⟨n.val % 2, by omega⟩ : Fin 2)) (fun b => by fin_cases b <;> rfl),
    shapeCast_apply _ _ (ix2 (0 : Fin 1) _) (ix1 (⟨n.val % 2, by omega⟩ : Fin 2)) (by
      rw [Shape.rowMajor_val_two, Shape.rowMajor_val_one]
      show n.val % 2 = 0 * 2 + n.val % 2
      omega)]
  rfl

theorem expertCol_at (a : IVec S4x2048x2 32) : (expertCol a : FVec F S4x4096x1 .f32) (ix3 c n (0 : Fin 1)) = fOf (flat a (ix2 c n)) := by
  unfold expertCol
  rw [broadcastInDim_apply _ _ _ _ (ix2 c n) (fun b => by fin_cases b <;> rfl)]
  rfl

theorem weightCol_at (w : FVec F S4x2048x2 .f32) :
    weightCol w (ix3 c n (0 : Fin 1)) = shapeCast S4x4096 w shapeCasts_S4x2048x2_S4x4096 (ix2 c n) := by
  unfold weightCol
  rw [broadcastInDim_apply _ _ _ _ (ix2 c n) (fun b => by fin_cases b <;> rfl)]

/-- Five columns side by side. -/
theorem five_at {α : Type} (x0 x1 x2 x3 x4 : S4x4096x1.Idx → α) (k : Fin 5) (h) :
    concatenate S4x4096x5 2 [⟨S4x4096x1, x0⟩, ⟨S4x4096x1, x1⟩, ⟨S4x4096x1, x2⟩, ⟨S4x4096x1, x3⟩, ⟨S4x4096x1, x4⟩] h (ix3 c n k)
      = (![x0, x1, x2, x3, x4] k) (ix3 c n (0 : Fin 1)) := by
  refine concatenate_apply_piece (t := S4x4096x5) 2 _ h (ix3 c n k) k.val k.isLt S4x4096x1 _ ?_ rfl k.val ?_ (ix3 c n (0 : Fin 1)) ?_ rfl
  · fin_cases k <;> rfl
  · fin_cases k <;> rfl
  · intro b hb
    fin_cases b
    · rfl
    · rfl
    · exact absurd rfl hb

end Columns

/-- The words of an assignment's position. -/
theorem chip_word {p : ℕ} (hp : p < 16384) : BitVec.ofNat 32 p >>> (12 : ℕ) = BitVec.ofNat 32 (p / 4096) := by
  apply BitVec.eq_of_toNat_eq
  rw [BitVec.toNat_ushiftRight, BitVec.toNat_ofNat, BitVec.toNat_ofNat, Nat.shiftRight_eq_div_pow]
  omega

theorem token_word {p : ℕ} (hp : p < 16384) : (BitVec.ofNat 32 p >>> (1 : ℕ)) &&& 2047#32 = BitVec.ofNat 32 (p % 4096 / 2) := by
  apply BitVec.eq_of_toNat_eq
  rw [BitVec.toNat_and, BitVec.toNat_ushiftRight, BitVec.toNat_ofNat, BitVec.toNat_ofNat, Nat.shiftRight_eq_div_pow]
  rw [show 2047 % 2 ^ 32 = 2 ^ 11 - 1 from rfl, Nat.and_two_pow_sub_one_eq_mod]
  rw [BitVec.toNat_ofNat]
  omega

theorem topk_word {p : ℕ} (hp : p < 16384) : BitVec.ofNat 32 p &&& 1#32 = BitVec.ofNat 32 (p % 2) := by
  apply BitVec.eq_of_toNat_eq
  rw [BitVec.toNat_and, BitVec.toNat_ofNat, BitVec.toNat_ofNat]
  rw [show 1 % 2 ^ 32 = 2 ^ 1 - 1 from rfl, Nat.and_two_pow_sub_one_eq_mod, BitVec.toNat_ofNat]
  omega

variable {a : IVec S4x2048x2 32} {A : Cert.KernelIdeal.S16384.Idx → BitVec 32} (hA : FlatIs a A)
  {w : FVec F S4x2048x2 .f32} {W : Cert.KernelIdeal.S16384.Idx → F .f32}
  (hW : ∀ (c : Fin 4) (n : Fin 4096), shapeCast S4x4096 w shapeCasts_S4x2048x2_S4x4096 (ix2 c n) = wAt W (4096 * c.val + n.val))
include hA hW

theorem metaRows_at (p : Fin 16384) (k : Fin 8) :
    metaRows a w (ix2 p k) = metaVal (BitVec.ofNat 32 p.val) (elemAt A p.val) (wAt W p.val) k.val := by
  have hp := p.isLt
  obtain ⟨c, n, hcn, hc, hn⟩ : ∃ (c : Fin 4) (n : Fin 4096), p.val = 4096 * c.val + n.val ∧ c.val = p.val / 4096 ∧ n.val = p.val % 4096 :=
    ⟨⟨p.val / 4096, by omega⟩, ⟨p.val % 4096, by omega⟩, by dsimp only; omega, rfl, rfl⟩
  unfold metaRows
  rw [shapeCast_apply _ _ (ix2 p k) (ix3 c n k) (by
    rw [Shape.rowMajor_val_two, Shape.rowMajor_val_three]
    show (c.val * 4096 + n.val) * 8 + k.val = p.val * 8 + k.val
    omega)]
  by_cases hk : k.val < 5
  · refine (concatenate_pair_apply_left (t := S4x4096x8) (s₁ := S4x4096x5) 2 _ _ _ (ix3 c n k) rfl (ix3 c n (⟨k.val, hk⟩ : Fin 5))
      (fun b => by fin_cases b <;> rfl)).trans ((five_at c n _ _ _ _ _ _ _).trans ?_)
    obtain ⟨j, hj⟩ : ∃ j : Fin 5, j = ⟨k.val, hk⟩ := ⟨_, rfl⟩
    rw [← hj, show k.val = j.val by rw [hj]]
    match j with
    | 0 => exact (chipCol_at c n).trans (congrArg fOf (by rw [hc, chip_word hp]))
    | 1 => exact (tokenCol_at c n).trans (congrArg fOf (by rw [hn, token_word hp]))
    | 2 => exact (topkCol_at c n).trans (congrArg fOf (by rw [topk_word hp]; congr 1; omega))
    | 3 => exact (expertCol_at c n a).trans (congrArg fOf (by rw [hA, hcn]))
    | 4 => exact (weightCol_at c n w).trans (by rw [hW, hcn]; rfl)
  · have hk8 := k.isLt
    refine (concatenate_pair_apply_right (t := S4x4096x8) (s₁ := S4x4096x5) (s₂ := S4x4096x3) 2 _ _ _ (ix3 c n k) rfl rfl
      (ix3 c n (⟨k.val - 5, by omega⟩ : Fin 3)) (fun b hb => by
        fin_cases b
        · rfl
        · rfl
        · exact absurd rfl hb) (show k.val - 5 + 5 = k.val by omega)).trans ?_
    obtain ⟨j, hj⟩ : ∃ j : ℕ, k.val = j + 5 := ⟨k.val - 5, by omega⟩
    have hv : metaVal (BitVec.ofNat 32 p.val) (elemAt A p.val) (wAt W p.val) (j + 5) = Scalar.ofBits .f32 0x00000000#32 := rfl
    rw [← hj] at hv
    exact hv.symm

end Cert.Proof.Plain

end
-- ==== Proof.Results.lean ====
/-
  The reference's three results at an index, as the kernel's are stated: by the flat index array's counts and slots.
-/
module

public import proofs.«01_k».proof.Proof.Columns

@[expose] public section

noncomputable section

namespace Cert.Proof.Plain

open Cert.ReferenceIdeal Cert.ReferenceIdeal.Gen
open Cert.Proof.Dispatch (elemAt Hit cnt eOf slotOf slotOf_lt exists_hit slotOf_hit fOf wAt metaVal unfilled)
open Idealize.ShloMosaic Idealize.ShloMosaic.TcCoe Idealize.SL.Sem Idealize.ShloMosaic.ValueIdx

variable {F : FTy → Type} [FloatOps F]

/-- A filled slot's assignment is to its expert. -/
theorem elem_slot {A : Cert.KernelIdeal.S16384.Idx → BitVec 32} {e : BitVec 32} {i : ℕ} (h : i < cnt A e 16384) : elemAt A (slotOf A e i) = e := by
  obtain ⟨p, _, hp, rfl⟩ := exists_hit A e h
  rw [slotOf_hit A e hp]
  exact hp.2

variable {a : IVec S4x2048x2 32} {A : Cert.KernelIdeal.S16384.Idx → BitVec 32}
variable (hA : FlatIs a A) (hlt : ∀ p, p < 16384 → (elemAt A p).toNat < 64)
variable (c : Fin 4) (l : Fin 16) (i : Fin 512)
include hA

theorem totalOut_at : totalOut a (ix2 c l) = BitVec.ofNat 32 (cnt A (eOf (16 * c.val + l.val)) 16384) := by
  have hc := c.isLt
  have hl := l.isLt
  have he : 16 * c.val + l.val < 64 := by omega
  unfold totalOut
  rw [shapeCast_apply _ _ (ix2 c l) (ix1 (⟨16 * c.val + l.val, he⟩ : Fin 64)) (by
    rw [Shape.rowMajor_val_two, Shape.rowMajor_val_one]
    show 16 * c.val + l.val = c.val * 16 + l.val
    omega), Host.reduce_eq_fold_single _ _ _ _ (by decide)]
  have hs : ((List.range 4).map fun k => cnt A (eOf (16 * c.val + l.val)) (4096 * k + 4096) - cnt A (eOf (16 * c.val + l.val)) (4096 * k)).sum
      = cnt A (eOf (16 * c.val + l.val)) 16384 := sum_chips A (eOf (16 * c.val + l.val)) 4
  have h1 := fold_ofNat (fun k : Fin 4 => counts a (ix2 k (⟨16 * c.val + l.val, he⟩ : Fin 64)))
    (fun k => cnt A (eOf (16 * c.val + l.val)) (4096 * k + 4096) - cnt A (eOf (16 * c.val + l.val)) (4096 * k))
    (fun k => counts_at hA k (⟨16 * c.val + l.val, he⟩ : Fin 64))
  rw [hs] at h1
  refine Eq.trans ?_ h1
  refine congrArg (fun f : Fin 4 → BitVec 32 => (Finset.univ : Finset (Fin 4)).fold IntOp.addi 0#32 f) (funext fun k => ?_)
  rw [Function.comp_apply]
  refine congrArg (counts a) (funext fun b => ?_)
  fin_cases b <;> rfl

include hlt

theorem rowsOut_at (x : FVec F S4x2048x1024 .f32) (h : Fin 1024) :
    rowsOut a x (ix4 c l i h) = if i.val < cnt A (eOf (16 * c.val + l.val)) 16384 then xAt x (slotOf A (eOf (16 * c.val + l.val)) i.val) h
      else Scalar.ofBits .f32 0x00000000#32 := by
  have hc := c.isLt
  have hl := l.isLt
  have hi := i.isLt
  have he : 16 * c.val + l.val < 64 := by omega
  unfold rowsOut
  rw [shapeCast_apply _ _ (ix4 c l i h) (ix2 (⟨512 * (16 * c.val + l.val) + i.val, by omega⟩ : Fin 32768) h) (by
    rw [Shape.rowMajor_val_two, Shape.rowMajor_val_four]
    show (512 * (16 * c.val + l.val) + i.val) * 1024 + h.val = ((c.val * 16 + l.val) * 512 + i.val) * 1024 + h.val
    omega)]
  have hx : (fun b : Fin 2 => (⟨(![0, 0] : Fin 2 → ℕ) b + (ix2 (⟨512 * (16 * c.val + l.val) + i.val, by omega⟩ : Fin 32768) h b).val, by
      fin_cases b
      · show 0 + (512 * (16 * c.val + l.val) + i.val) < 32769
        omega
      · show 0 + h.val < 1024
        omega⟩ : Fin (S32769x1024.size b))) = ix2 (⟨512 * (16 * c.val + l.val) + i.val, by omega⟩ : Fin 32769) h := by
    funext b
    fin_cases b
    · exact Fin.ext (Nat.zero_add _)
    · exact Fin.ext (Nat.zero_add _)
  refine (congrArg (Host.scatter scatter_S32769x1024_S16384x1_S16384x1024_1_0_0_1 (fun _ b => b) _ (rowOf a) (xRep x)) hx).trans ?_
  split
  · next hf =>
    refine (scatter_filled hlt scatter_S32769x1024_S16384x1_S16384x1024_1_0_0_1_wf _ (rowOf a) (xRep x) (rowOf_at hA hlt) he hi h _ rfl
      ⟨slotOf A (eOf (16 * c.val + l.val)) i.val, slotOf_lt A _ hf⟩ rfl hf).trans (xRep_at x _ h)
  · next hf =>
    exact scatter_unfilled hlt scatter_S32769x1024_S16384x1_S16384x1024_1_0_0_1_wf _ (rowOf a) (xRep x) (rowOf_at hA hlt) he hi h _ rfl (by omega)

variable {w : FVec F S4x2048x2 .f32} {W : Cert.KernelIdeal.S16384.Idx → F .f32}
  (hW : ∀ (c : Fin 4) (n : Fin 4096), shapeCast S4x4096 w shapeCasts_S4x2048x2_S4x4096 (ix2 c n) = wAt W (4096 * c.val + n.val))
include hW

theorem metaOut_at (k : Fin 8) :
    metaOut a w (ix4 c l i k) = if i.val < cnt A (eOf (16 * c.val + l.val)) 16384
      then metaVal (BitVec.ofNat 32 (slotOf A (eOf (16 * c.val + l.val)) i.val)) (eOf (16 * c.val + l.val)) (wAt W (slotOf A (eOf (16 * c.val + l.val)) i.val)) k.val
      else unfilled := by
  have hc := c.isLt
  have hl := l.isLt
  have hi := i.isLt
  have hk := k.isLt
  have he : 16 * c.val + l.val < 64 := by omega
  unfold metaOut
  rw [shapeCast_apply _ _ (ix4 c l i k) (ix2 (⟨512 * (16 * c.val + l.val) + i.val, by omega⟩ : Fin 32768) k) (by
    rw [Shape.rowMajor_val_two, Shape.rowMajor_val_four]
    show (512 * (16 * c.val + l.val) + i.val) * 8 + k.val = ((c.val * 16 + l.val) * 512 + i.val) * 8 + k.val
    omega)]
  have hx : (fun b : Fin 2 => (⟨(![0, 0] : Fin 2 → ℕ) b + (ix2 (⟨512 * (16 * c.val + l.val) + i.val, by omega⟩ : Fin 32768) k b).val, by
      fin_cases b
      · show 0 + (512 * (16 * c.val + l.val) + i.val) < 32769
        omega
      · show 0 + k.val < 8
        omega⟩ : Fin (S32769x8.size b))) = ix2 (⟨512 * (16 * c.val + l.val) + i.val, by omega⟩ : Fin 32769) k := by
    funext b
    fin_cases b
    · exact Fin.ext (Nat.zero_add _)
    · exact Fin.ext (Nat.zero_add _)
  refine (congrArg (Host.scatter scatter_S32769x8_S16384x1_S16384x8_1_0_0_1 (fun _ b => b) _ (rowOf a) (metaRows a w)) hx).trans ?_
  split
  · next hf =>
    refine (scatter_filled hlt scatter_S32769x8_S16384x1_S16384x8_1_0_0_1_wf _ (rowOf a) (metaRows a w) (rowOf_at hA hlt) he hi k _ rfl
      ⟨slotOf A (eOf (16 * c.val + l.val)) i.val, slotOf_lt A _ hf⟩ rfl hf).trans ((metaRows_at hA hW _ k).trans ?_)
    show metaVal (BitVec.ofNat 32 (slotOf A (eOf (16 * c.val + l.val)) i.val)) (elemAt A (slotOf A (eOf (16 * c.val + l.val)) i.val)) _ k.val = _
    rw [elem_slot hf]
  · next hf =>
    exact scatter_unfilled hlt scatter_S32769x8_S16384x1_S16384x8_1_0_0_1_wf _ (rowOf a) (metaRows a w) (rowOf_at hA hlt) he hi k _ rfl (by omega)

end Cert.Proof.Plain

end
-- ==== Proof.Tile.lean ====
/-
  A vector subcore's whole task: from shares of the three tables and its parts of the three results, to its parts holding
  what the results are.
-/
module

public import proofs.«01_k».proof.Proof.Phase
public import Idealize.ShloMosaic.Lib.ShareLeaves

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Own

variable (d : Dev nD) (L : grid0.Coords)

/-- The nine transfer semaphores of a vector subcore, and its eight scratch buffers. -/
abbrev sem9 (k : Fin 9) : DmaSem sig := ⟨k.val, k.isLt⟩
abbrev cell9 (k : Fin 9) : GSem nD τ sig := (VT d L, .dma (sem9 k))
def buf8 : Fin 8 → Ref sig .scVector
  | 0 => cc0_scratch0 | 1 => cc0_scratch1 | 2 => cc0_scratch2 | 3 => cc0_scratch3
  | 4 => cc0_scratch4 | 5 => cc0_scratch5 | 6 => cc0_scratch6 | 7 => cc0_scratch7
abbrev loc8 (k : Fin 8) : DevRef τ sig := (Proc.scVector (cV L) (jV L)).devRef (buf8 k)

theorem cell9_mem (k : Fin 9) : cell9 d L k ∈ ownCells (VT d L) :=
  mem_ownCells.mpr ⟨rfl, (show ∀ s : DmaSem sig, (SemLoc.dma s : SemLoc sig).isScoped .scVector = true by decide) _⟩
theorem cell9_inj : Set.InjOn (cell9 d L) ((Finset.univ : Finset (Fin 9)) : Set (Fin 9)) := by
  intro a _ b _ h
  have h2 := congrArg (fun g : GSem nD τ sig => g.2) h
  simp only [SemLoc.dma.injEq, Fin.mk.injEq] at h2
  exact Fin.ext h2
theorem loc8_mem (k : Fin 8) : loc8 L k ∈ ownRefs (τ := τ) (sig := sig) (.scVector (cV L) (jV L)) :=
  SparseCore.Cfg.mem_ownRefs_of_owner (p := Proc.scVector (cV L) (jV L)) (by fin_cases k <;> rfl)
theorem buf8_inj : Function.Injective buf8 := by decide
theorem loc8_inj : Set.InjOn (loc8 L) ((Finset.univ : Finset (Fin 8)) : Set (Fin 8)) :=
  fun _ _ _ _ h => buf8_inj (Proc.devRef_injective _ h)

theorem own_sems : (ownSems0 (VT d L) : sProp 𝕄)
    = iprop((semVal (VT d L, SemLoc.dma cc0_scratch8.sem) 0 ∗ semVal (VT d L, SemLoc.dma (stSem false)) 0 ∗ semVal (VT d L, SemLoc.dma (stSem true)) 0
        ∗ semVal (VT d L, SemLoc.dma cc0_scoped0.sem) 0 ∗ semVal (VT d L, SemLoc.dma cc0_scoped1.sem) 0
        ∗ semVal (VT d L, SemLoc.dma (mSem 0)) 0 ∗ semVal (VT d L, SemLoc.dma (cSem 0)) 0 ∗ semVal (VT d L, SemLoc.dma (mSem 1)) 0 ∗ semVal (VT d L, SemLoc.dma (cSem 1)) 0)
      ∗ bigSep (ownCells (VT d L) \ Finset.univ.image (cell9 d L)) fun g => semVal g 0) := by
  unfold SparseCore.Cfg.ownSems0
  rw [SparseCore.bigSep_sdiff_split' (t := Finset.univ.image (cell9 d L)) (Finset.image_subset_iff.mpr fun k _ => cell9_mem d L k),
    SparseCore.bigSep_image_of_injOn (cell9_inj d L), show (Finset.univ : Finset (Fin 9)) = {0, 1, 2, 3, 4, 5, 6, 7, 8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

abbrev bufAny (b : DevRef τ sig) : sProp 𝕄 := iprop(∃ f, ((d, b) : Loc nD τ sig) ↦{fullShare} f)

/-- A chunk buffer, all its elements. -/
def xRaw : Bool → (S128x2x128.Idx → F .f32) → sProp 𝕄
  | false, f => (VT d L).loc cc0_scratch4 ↦{fullShare} (f : Buf (Elt F) ((VT d L).loc cc0_scratch4))
  | true, f => (VT d L).loc cc0_scratch5 ↦{fullShare} (f : Buf (Elt F) ((VT d L).loc cc0_scratch5))

theorem x_raw [FloatOps F] (p : Bool) (f : S128x2x128.Idx → F .f32) : xPts d L p f = xRaw d L p f := by
  cases p
  · exact xPts_false d L f
  · exact xPts_true d L f

theorem own_bufs : (ownBufs (VT d L) : sProp 𝕄)
    = iprop(((∃ f, iPts d L f) ∗ (∃ f, wPts (F := F) d L f) ∗ (∃ f, sPts d L f) ∗ (∃ f, qPts d L f) ∗ (∃ f, xRaw (F := F) d L false f) ∗ (∃ f, xRaw (F := F) d L true f)
        ∗ (∃ f, mPts (F := F) d L f) ∗ (∃ f, cPts d L f))
      ∗ bigSep (ownRefs (τ := τ) (.scVector (cV L) (jV L)) \ Finset.univ.image (loc8 L)) fun b => bufAny d b) := by
  unfold SparseCore.Cfg.ownBufs
  refine (SparseCore.bigSep_sdiff_split' (t := Finset.univ.image (loc8 L)) (Finset.image_subset_iff.mpr fun k _ => loc8_mem L k)).trans ?_
  rw [SparseCore.bigSep_image_of_injOn (loc8_inj L), show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end Own

section Task

variable [FloatOps F] (d : Dev nD) (L : grid0.Coords)

theorem d_done {A : S16384.Idx → BitVec 32} {xt : S32800x2x128.Idx → F .f32} {f : S131072x2x128.Idx → F .f32} (h : DAt L (dFin A xt) 32 f) :
    dPts d L f = dPts d L (dFin A xt) := by
  refine pointsTo_congr fun y hy => h y ?_ ?_ <;> have := (Finset.mem_filter.mp hy).2 <;> omega
theorem m_done {A : S16384.Idx → BitVec 32} {w : S16384.Idx → F .f32} {f : S262144.Idx → F .f32} (h : MAt L A w 2 f) :
    moPts d L f = moPts d L (mFin A w) := by
  refine pointsTo_congr fun y hy => h y ?_ ?_ <;> have := (Finset.mem_filter.mp hy).2 <;> omega
theorem c_done {A : S16384.Idx → BitVec 32} {f : S1024.Idx → BitVec 32} (h : CAt L A 2 f) :
    (coPts d L f : sProp 𝕄) = coPts d L (cFin A) := by
  refine pointsTo_congr fun y hy => h y ?_ ?_ <;> have := (Finset.mem_filter.mp hy).2 <;> omega

/-- What a subcore brings and takes back. -/
abbrev taskPts (q : PosShare TreeShare) (A : S16384.Idx → BitVec 32) (w : S16384.Idx → F .f32) (xt : S32800x2x128.Idx → F .f32)
    (fd : S131072x2x128.Idx → F .f32) (fm : S262144.Idx → F .f32) (fc : S1024.Idx → BitVec 32) : sProp 𝕄 :=
  iprop((iLoc d ↦{q} (A : Buf (Elt F) (iLoc d))) ∗ (wLoc d ↦{q} (w : Buf (Elt F) (wLoc d))) ∗ tPts d q xt ∗ dPts d L fd ∗ moPts d L fm ∗ coPts d L fc)

theorem task (hF : (K (F := F)).Facts) (O : CellTallies nD τ sig (HIx 1)) (W0 : Waits sig (HIx 1)) (hO : ∀ g, O g none = 0)
    (q : PosShare TreeShare) (A : S16384.Idx → BitVec 32) (w : S16384.Idx → F .f32) (xt : S32800x2x128.Idx → F .f32)
    (fd : S131072x2x128.Idx → F .f32) (fm : S262144.Idx → F .f32) (fc : S1024.Idx → BitVec 32) :
    iprop(levAts (K (F := F)).L (K (F := F)).lev ∗ emp ∗ taskPts d L q A w xt fd fm fc ∗ scopedBufs (VT d L) ∗ scopedSems0 (VT d L) ∗ owes (VT d L) O W0)
      ⊢ wp frame (wpE (defs₀ (F := F)) 𝒱₀ (VT d L) none) Set.univ (cc0__dispatch_kernel (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5)
          fun _ => iprop(taskPts d L q A w xt (dFin A xt) (mFin A w) (cFin A) ∗ scopedBufs (VT d L) ∗ scopedSems0 (VT d L)
            ∗ ∃ W', ⌜∀ p ∈ W', p ∈ W0 ∨ p.2 = none⌝ ∗ owes (VT d L) O W') := by
  rw [kernel_eq]
  unfold body
  simp only [Prog.bind_assoc, Prog.lift, Prog.bind_op, Prog.bind_ret]
  rw [← Prog.bind_pure (phase L 1)]
  have hx : ∀ p, (iprop(∃ f, xRaw (F := F) d L p f) : sProp 𝕄) = iprop(∃ f, xPts (F := F) d L p f) := fun p =>
    congrArg (fun Φ : (S128x2x128.Idx → F .f32) → sProp 𝕄 => iprop(∃ f, Φ f)) (funext fun f => (x_raw d L p f).symm)
  rw [(K (F := F)).scopedBufs_V hF d (cV L) (jV L), SparseCore.Cfg.scopedSems0_V (Val := Elt F) d (cV L) (jV L), own_sems, own_bufs, hx false, hx true]
  iintro ⟨#Hlv, -, ⟨HIa, HWa, HT, HD, HMo, HCo⟩, ⟨⟨⟨%fA, HA⟩, ⟨%fw, Hw⟩, Hs, Hq, Hx0, Hx1, Hm, Hc⟩, Hbufs⟩, ⟨⟨Hg, Hv0, Hv1, Hr0, Hr1, Hm0, Hc0, Hm1, Hc1⟩, Hsems⟩, HO⟩
  ihave Hmw := (show levAts (K (F := F)).L (K (F := F)).lev ⊢ Mw (F := F) d L O from (K (F := F)).mayWaits_none (thr := VT d L) hO) $$ Hlv
  icases Hmw with #Hmw
  have hiS : (aI.view.loc (VT d L) ↦[aI.view.set]{q} (A : Buf (Elt F) (iLoc d)) : sProp 𝕄) = (iLoc d ↦{q} (A : Buf (Elt F) (iLoc d))) :=
    congrArg (fun S => (iLoc d ↦[S]{q} (A : Buf (Elt F) (iLoc d)) : sProp 𝕄)) (View.set_whole _)
  have hwS : (aW.view.loc (VT d L) ↦[aW.view.set]{q} (w : Buf (Elt F) (wLoc d)) : sProp 𝕄) = (wLoc d ↦{q} (w : Buf (Elt F) (wLoc d))) :=
    congrArg (fun S => (wLoc d ↦[S]{q} (w : Buf (Elt F) (wLoc d)) : sProp 𝕄)) (View.set_whole _)
  iapply (sync_copy d L O W0 (sem := cc0_scoped0.sem) (src := aI) (dst := bI) (q := q) (fs := (A : Buf (Elt F) (iLoc d))) (Sd := Finset.univ) (fd := fA) (by decide) (Finset.subset_univ _)) $$ [HIa HA Hr0 HO]
  · isplitr; · iexact Hmw
    isplitl [HIa]; · iapply (Entails.of_eq hiS.symm); iexact HIa
    isplitl [HA]; · iexact HA
    isplitl [Hr0]; · iexact Hr0
    unfold Owe
    iexists W0
    isplitr
    · ipureintro; exact fun p hp => Or.inl hp
    · iexact HO
  iintro ⟨HA, HIa, Hr0, HO⟩
  iapply (sync_copy d L O W0 (sem := cc0_scoped1.sem) (src := aW) (dst := bW) (q := q) (fs := (w : Buf (Elt F) (wLoc d))) (Sd := Finset.univ) (fd := fw) (by decide) (Finset.subset_univ _)) $$ [HWa Hw Hr1 HO]
  · isplitr; · iexact Hmw
    isplitl [HWa]; · iapply (Entails.of_eq hwS.symm); iexact HWa
    isplitl [Hw]; · iexact Hw
    isplitl [Hr1]; · iexact Hr1
    iexact HO
  iintro ⟨Hw, HWa, Hr1, HO⟩
  have hA : bI.view.write (Elt F) fA (aI.view.read (Elt F) (A : Buf (Elt F) (iLoc d))) Finset.univ = A := View.write_whole_univ cc0_scratch0 _ _
  have hW : bW.view.write (Elt F) fw (aW.view.read (Elt F) (w : Buf (Elt F) (wLoc d))) Finset.univ = w := View.write_whole_univ cc0_scratch1 _ _
  rw [hA, hW]
  iapply (phase_step d L O W0 q A w xt 0) $$ [HA Hw HT Hs Hq Hx0 Hx1 Hm Hc HD HMo HCo Hg Hv0 Hv1 HO Hm0 Hc0]
  · isplitr; · iexact Hmw
    isplitr [Hm0 Hc0]
    swap
    · isplitl [Hm0]; · iexact Hm0
      iexact Hc0
    unfold PS
    isplitl [HA]; · iexact HA
    isplitl [Hw]; · iexact Hw
    isplitl [HT]; · iexact HT
    isplitl [Hs]; · iexact Hs
    isplitl [Hq]; · iexact Hq
    isplitl [Hx0]; · iexact Hx0
    isplitl [Hx1]; · iexact Hx1
    isplitl [Hm]; · iexact Hm
    isplitl [Hc]; · iexact Hc
    isplitl [HD]
    · iexists fd
      isplitr
      · ipureintro; intro y h1 h2; exfalso; simp only [Fin.val_zero] at h2; omega
      · iexact HD
    isplitl [HMo]
    · iexists fm
      isplitr
      · ipureintro; intro y h1 h2; exfalso; simp only [Fin.val_zero] at h2; omega
      · iexact HMo
    isplitl [HCo]
    · iexists fc
      isplitr
      · ipureintro; intro y h1 h2; exfalso; simp only [Fin.val_zero] at h2; omega
      · iexact HCo
    isplitl [Hg]; · iexact Hg
    isplitl [Hv0]; · iexact Hv0
    isplitl [Hv1]; · iexact Hv1
    iexact HO
  iintro ⟨HPS, Hm0, Hc0⟩
  iapply (phase_step d L O W0 q A w xt 1) $$ [HPS Hm1 Hc1]
  · isplitr; · iexact Hmw
    isplitl [HPS]; · iexact HPS
    isplitl [Hm1]; · iexact Hm1
    iexact Hc1
  iintro ⟨HPS, Hm1, Hc1⟩
  unfold PS
  icases HPS with ⟨HA, Hw, HT, Hs, Hq, Hx0, Hx1, Hm, Hc, ⟨%gd, %hgd, HD⟩, ⟨%gm, %hgm, HMo⟩, ⟨%gc, %hgc, HCo⟩, Hg, Hv0, Hv1, HO⟩
  rw [Prog.pure_eq_ret]; unfold W; rw [wp_ret]; imodintro
  isplitl [HIa HWa HT HD HMo HCo]
  · isplitl [HIa]; · iapply (Entails.of_eq hiS); iexact HIa
    isplitl [HWa]; · iapply (Entails.of_eq hwS); iexact HWa
    isplitl [HT]; · iexact HT
    isplitl [HD]; · iapply (Entails.of_eq (d_done d L hgd)); iexact HD
    isplitl [HMo]; · iapply (Entails.of_eq (m_done d L hgm)); iexact HMo
    iapply (Entails.of_eq (c_done d L hgc)); iexact HCo
  isplitl [HA Hw Hs Hq Hx0 Hx1 Hm Hc Hbufs]
  · isplitr [Hbufs]
    swap
    · iexact Hbufs
    isplitl [HA]; · iexists _; iexact HA
    isplitl [Hw]; · iexists _; iexact Hw
    isplitl [Hs]; · iexact Hs
    isplitl [Hq]; · iexact Hq
    isplitl [Hx0]; · iexact Hx0
    isplitl [Hx1]; · iexact Hx1
    isplitl [Hm]; · iexact Hm
    iexact Hc
  isplitr [HO]
  swap
  · iapply (Entails.of_eq (show Owe (F := F) d L O W0 = iprop(∃ W', ⌜∀ p ∈ W', p ∈ W0 ∨ p.2 = none⌝ ∗ owes (VT d L) O W') from rfl)); iexact HO
  isplitr [Hsems]
  swap
  · iexact Hsems
  isplitl [Hg]; · iexact Hg
  isplitl [Hv0]; · iexact Hv0
  isplitl [Hv1]; · iexact Hv1
  isplitl [Hr0]; · iexact Hr0
  isplitl [Hr1]; · iexact Hr1
  isplitl [Hm0]; · iexact Hm0
  isplitl [Hc0]; · iexact Hc0
  isplitl [Hm1]; · iexact Hm1
  iexact Hc1

end Task

end Cert.Proof.Dispatch

end
-- ==== Proof.Launch.lean ====
/-
  The launch: what the one call's handshakes carry, @main around it, and the run from any memory: the argument arrays end
  unchanged, every counter at zero, and the results at stated functions of the arguments.
-/
module

public import proofs.«01_k».proof.Proof.Tile

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within seq seqK after tcRefs launchContents wp_seq)
open Idealize.ShloMosaic.ShareLeaves (leaf pointsTo_leaves)
open Idealize.ShloMosaic.Tactic

variable {F : FTy → Type}

local notation "𝕄" => MT nD τ sig (HIx 1) (Elt F) ℕ UU ℕ

/-! ## Whole arrays as the thirty-two subcores' parts -/

/-- Two SparseCores of sixteen subcores. -/
abbrev all32 (Φ : Fin 2 → Fin 16 → sProp 𝕄) : sProp 𝕄 := bigSep Finset.univ fun c : Fin 2 => bigSep Finset.univ fun s : Fin 16 => Φ c s

theorem parts32 {ℓ : Loc nD τ sig} (num : Idx ℓ → ℕ) (hnum : ∀ y, num y < 32) (sets : Fin 2 → Fin 16 → Finset (Idx ℓ))
    (h : ∀ c s y, y ∈ sets c s ↔ num y = 2 * s.val + c.val) (f : Buf (Elt F) ℓ) :
    (ℓ ↦{fullShare} f : sProp 𝕄) = all32 fun c s => ℓ ↦[sets c s]{fullShare} f := by
  have hdis : ∀ p ∈ (Finset.univ : Finset (Fin 2 × Fin 16)), ∀ p' ∈ (Finset.univ : Finset (Fin 2 × Fin 16)), p ≠ p' → Disjoint (sets p.1 p.2) (sets p'.1 p'.2) := by
    intro p _ p' _ hne
    refine Finset.disjoint_left.mpr fun y h1 h2 => hne ?_
    have e1 := (h _ _ _).mp h1
    have e2 := (h _ _ _).mp h2
    have b1 := p.1.isLt
    have b2 := p'.1.isLt
    exact Prod.ext (Fin.ext (by omega)) (Fin.ext (by omega))
  have hcov : (Finset.univ : Finset (Fin 2 × Fin 16)).biUnion (fun p => sets p.1 p.2) = Finset.univ := by
    refine Finset.eq_univ_of_forall fun y => Finset.mem_biUnion.mpr ?_
    have hy := hnum y
    refine ⟨(⟨num y % 2, by omega⟩, ⟨num y / 2, by omega⟩), Finset.mem_univ _, (h _ _ _).mpr ?_⟩
    show num y = 2 * (num y / 2) + num y % 2
    omega
  refine Eq.trans ?_ (bigSep_univ_prod fun p : Fin 2 × Fin 16 => (ℓ ↦[sets p.1 p.2]{fullShare} f : sProp 𝕄))
  rw [← pointsTo_biUnion Finset.univ (ℓ := ℓ) (fun p : Fin 2 × Fin 16 => sets p.1 p.2) hdis, hcov]

/-- A subcore's share of a table. -/
def share (c : Fin 2) (s : Fin 16) : PosShare TreeShare := leaf 4 (leaf 1 fullShare c) s

theorem shares32 {ℓ : Loc nD τ sig} (f : Buf (Elt F) ℓ) : (ℓ ↦{fullShare} f : sProp 𝕄) = all32 fun c s => ℓ ↦{share c s} f :=
  (pointsTo_leaves Finset.univ f 1 fullShare).trans (bigSep_congr fun c _ => pointsTo_leaves Finset.univ f 4 (leaf 1 fullShare c))

theorem all32_sep (Φ Ψ : Fin 2 → Fin 16 → sProp 𝕄) : (all32 fun c s => iprop(Φ c s ∗ Ψ c s)) = iprop(all32 Φ ∗ all32 Ψ) :=
  (bigSep_congr fun _ _ => bigSep_sep' _ _ _).trans (bigSep_sep' _ _ _)

theorem sep_eq {a a' b b' : sProp 𝕄} (h : a = a') (h' : b = b') : iprop(a ∗ b) = iprop(a' ∗ b') := by rw [h, h']

def coordsV (c : Fin 2) (s : Fin 16) : grid0.Coords :=
  fun | 0 => c | 1 => s | ⟨_ + 2, h⟩ => absurd h (Nat.not_lt.2 (Nat.le_add_left _ _))

variable [FloatOps F]

/-- What the call takes whole (and brings back): the three tables and the three results. -/
abbrev callPts (d : Dev nD) (A : S16384.Idx → BitVec 32) (w : S16384.Idx → F .f32) (xt : S32800x2x128.Idx → F .f32)
    (fd : S131072x2x128.Idx → F .f32) (fm : S262144.Idx → F .f32) (fc : S1024.Idx → BitVec 32) : sProp 𝕄 :=
  iprop((iLoc d ↦{fullShare} (A : Buf (Elt F) (iLoc d))) ∗ (wLoc d ↦{fullShare} (w : Buf (Elt F) (wLoc d))) ∗ (tLoc d ↦{fullShare} (xt : Buf (Elt F) (tLoc d)))
    ∗ (dLoc d ↦{fullShare} (fd : Buf (Elt F) (dLoc d))) ∗ (mLoc d ↦{fullShare} (fm : Buf (Elt F) (mLoc d))) ∗ (cLoc d ↦{fullShare} (fc : Buf (Elt F) (cLoc d))))

theorem callPts_eq (d : Dev nD) (A : S16384.Idx → BitVec 32) (w : S16384.Idx → F .f32) (xt : S32800x2x128.Idx → F .f32)
    (fd : S131072x2x128.Idx → F .f32) (fm : S262144.Idx → F .f32) (fc : S1024.Idx → BitVec 32) :
    callPts d A w xt fd fm fc = all32 fun c s => taskPts d (coordsV c s) (share c s) A w xt fd fm fc := by
  unfold taskPts
  rw [all32_sep, all32_sep, all32_sep, all32_sep, all32_sep]
  have hd : (dLoc d ↦{fullShare} (fd : Buf (Elt F) (dLoc d)) : sProp 𝕄) = all32 fun c s => dPts d (coordsV c s) fd :=
    parts32 (ℓ := dLoc d) (fun y : S131072x2x128.Idx => (y 0).val / 4096) (fun y => by have h : ((y : S131072x2x128.Idx) 0).val < 131072 := (y 0).isLt; omega)
      (fun c s => dSet (coordsV c s)) (fun c s y => by unfold dSet; rw [Finset.mem_filter]; exact and_iff_right (Finset.mem_univ _)) fd
  have hm : (mLoc d ↦{fullShare} (fm : Buf (Elt F) (mLoc d)) : sProp 𝕄) = all32 fun c s => moPts d (coordsV c s) fm :=
    parts32 (ℓ := mLoc d) (fun y : S262144.Idx => (y 0).val / 8192) (fun y => by have h : ((y : S262144.Idx) 0).val < 262144 := (y 0).isLt; omega)
      (fun c s => mSet (coordsV c s)) (fun c s y => by unfold mSet; rw [Finset.mem_filter]; exact and_iff_right (Finset.mem_univ _)) fm
  have hc : (cLoc d ↦{fullShare} (fc : Buf (Elt F) (cLoc d)) : sProp 𝕄) = all32 fun c s => coPts d (coordsV c s) fc :=
    parts32 (ℓ := cLoc d) (fun y : S1024.Idx => (y 0).val / 32) (fun y => by have h : ((y : S1024.Idx) 0).val < 1024 := (y 0).isLt; omega)
      (fun c s => cSet (coordsV c s)) (fun c s y => by unfold cSet; rw [Finset.mem_filter]; exact and_iff_right (Finset.mem_univ _)) fc
  exact sep_eq (shares32 (ℓ := iLoc d) A) (sep_eq (shares32 (ℓ := wLoc d) w) (sep_eq (shares32 (ℓ := tLoc d) xt) (sep_eq hd (sep_eq hm hc))))

/-! ## What the handshakes carry -/

section Launch

variable (A : Dev nD → S16384.Idx → BitVec 32) (w : Dev nD → S16384.Idx → F .f32) (xt : Dev nD → S32800x2x128.Idx → F .f32)
  (fd : Dev nD → S131072x2x128.Idx → F .f32) (fm : Dev nD → S262144.Idx → F .f32) (fc : Dev nD → S1024.Idx → BitVec 32)

abbrev goPts (d : Dev nD) (c : Fin 2) (s : Fin 16) : sProp 𝕄 := taskPts d (coordsV c s) (share c s) (A d) (w d) (xt d) (fd d) (fm d) (fc d)
abbrev tdPts (d : Dev nD) (c : Fin 2) (s : Fin 16) : sProp 𝕄 :=
  taskPts d (coordsV c s) (share c s) (A d) (w d) (xt d) (dFin (A d) (xt d)) (mFin (A d) (w d)) (cFin (A d))

theorem nCore_zero : (K (F := F)).nCore 0 = 2 := rfl

def P : (K (F := F)).Pay (nD := nD) (Val := Elt F) (Name := ℕ) (U := UU) where
  st := fun q d c => match q with | 0 => bigSep Finset.univ fun s => goPts A w xt fd fm fc d (Fin.cast nCore_zero c) s
  dn := fun q d c => match q with | 0 => bigSep Finset.univ fun s => tdPts A w xt d (Fin.cast nCore_zero c) s
  go := fun q d c i => match q with | 0 => goPts A w xt fd fm fc d (Fin.cast nCore_zero c) (Fin.cast nSub_zero i)
  td := fun q d c i => match q with | 0 => tdPts A w xt d (Fin.cast nCore_zero c) (Fin.cast nSub_zero i)
  x := fun _ _ => iprop(emp)

instance P_storable : (P (F := F) A w xt fd fm fc).IsStorable where
  st q d c := match q with
    | 0 => (inferInstance : BI.Storable (upEmb : UEmb _ 𝕄) (bigSep Finset.univ fun s => goPts A w xt fd fm fc d (Fin.cast nCore_zero c) s))
  dn q d c := match q with
    | 0 => (inferInstance : BI.Storable (upEmb : UEmb _ 𝕄) (bigSep Finset.univ fun s => tdPts A w xt d (Fin.cast nCore_zero c) s))
  go q d c i := match q with
    | 0 => (inferInstance : BI.Storable (upEmb : UEmb _ 𝕄) (goPts A w xt fd fm fc d (Fin.cast nCore_zero c) (Fin.cast nSub_zero i)))
  td q d c i := match q with
    | 0 => (inferInstance : BI.Storable (upEmb : UEmb _ 𝕄) (tdPts A w xt d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A w xt fd fm fc) 0 := by
  intro d c
  show (bigSep Finset.univ fun s => goPts A w xt fd fm fc d (Fin.cast nCore_zero c) s) ⊢ |={Set.univ}=> iprop(
      (bigSep Finset.univ fun i : Fin ((K (F := F)).nSub 0) => goPts A w xt fd fm fc d (Fin.cast nCore_zero c) (Fin.cast nSub_zero i))
      ∗ ((bigSep Finset.univ fun i : Fin ((K (F := F)).nSub 0) => tdPts A w xt d (Fin.cast nCore_zero c) (Fin.cast nSub_zero i))
          -∗ bigSep Finset.univ fun s => tdPts A w xt d (Fin.cast nCore_zero c) s))
  rw [bigSep_tasks (F := F) (fun s => goPts A w xt fd fm fc d (Fin.cast nCore_zero c) s), bigSep_tasks (F := F) (fun s => tdPts A w xt d (Fin.cast nCore_zero c) s)]
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => (fun L : grid0.Coords => cc0__dispatch_kernel (F := F) L aT (Memref.isWhole_whole _) aI (Memref.isWhole_whole _) aW (Memref.isWhole_whole _) aD (Memref.isWhole_whole _) aM (Memref.isWhole_whole _) aC (Memref.isWhole_whole _) bI (Memref.isWhole_whole _) bW (Memref.isWhole_whole _) bS (Memref.isWhole_whole _) bQ (Memref.isWhole_whole _) bX (Memref.isWhole_whole _) bY (Memref.isWhole_whole _) bM (Memref.isWhole_whole _) bC (Memref.isWhole_whole _) cc0_scratch8 cc0_scratch9 cc0_scratch10 cc0_scoped0 cc0_scoped1 cc0_scoped2 cc0_scoped3 cc0_scoped4 cc0_scoped5) (coordsV c s)) ⟨⟩ c s := rfl

theorem obl_post {thr : Thread nD τ} {B C D : sProp 𝕄} {O : CellTallies nD τ sig (HIx 1)} {W : Waits sig (HIx 1)} {q : Fin 1} :
    iprop(B ∗ C ∗ D ∗ ∃ W', ⌜∀ p ∈ W', p ∈ W ∨ p.2 = none⌝ ∗ owes thr O W')
      ⊢ iprop(B ∗ C ∗ D ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P A w xt fd fm fc) v₀ 0 := by
  intro d c i O W hO _ _
  simp only [show (P A w xt fd fm fc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) hF O W hO (share (Fin.cast nCore_zero c) (Fin.cast nSub_zero i)) (A d) (w d) (xt d) (fd d) (fm d) (fc d)).trans
    (wp_mono frame _ _ fun _ => obl_post)

theorem st0_eq (d : Dev nD) : (bigSep Finset.univ fun c : Fin ((K (F := F)).nCore 0) => (P A w xt fd fm fc).st 0 d c)
    = callPts d (A d) (w d) (xt d) (fd d) (fm d) (fc d) :=
  (bigSep_cores (F := F) (fun c => bigSep Finset.univ fun s => goPts A w xt fd fm fc d c s)).trans (callPts_eq d (A d) (w d) (xt d) (fd d) (fm d) (fc d)).symm
theorem dn0_eq (d : Dev nD) : (bigSep Finset.univ fun c : Fin ((K (F := F)).nCore 0) => (P A w xt fd fm fc).dn 0 d c)
    = callPts d (A d) (w d) (xt d) (dFin (A d) (xt d)) (mFin (A d) (w d)) (cFin (A d)) :=
  (bigSep_cores (F := F) (fun c => bigSep Finset.univ fun s => tdPts A w xt d c s)).trans (callPts_eq d (A d) (w d) (xt d) _ _ _).symm

/-! ## The launch element of the ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A w xt fd fm fc).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) A w xt fd fm fc).x q thr) = bigSep Finset.univ fun _ => iprop(emp) from
    bigSep_congr fun _ _ => bigSep_univ_of_subsingleton (0 : Fin 1), emps]
  iempintro

end Launch

/-! ## @main on the TensorCore -/

section Main

variable (m : (ℓ : Loc nD τ sig) → Buf (Elt F) ℓ) (ρ : Dev nD → PrngReg)

/-- The host's operations before the call, and after it. -/
def preOps : List (HloOp τ sig (Elt F)) :=
  [StableHlo.reshape main_arg0 main_v0 (rfl : (.f32 : EltTy) = .f32) shapeCasts_S4x2048x1024_S8192x1024,
   StableHlo.nullary main_cst (constant S_ .f32 0x00000000#32),
   StableHlo.unary main_cst main_v1 (broadcastInDim S8x1024 ![] bcast_S_S8x1024 : (⟨S_, .f32⟩ : BufTy).Contents (Elt F) → (⟨S8x1024, .f32⟩ : BufTy).Contents (Elt F)),
   StableHlo.binary main_v0 main_v1 main_v2 ((fun a b => concatenate S8200x1024 0 [⟨S8192x1024, a⟩, ⟨S8x1024, b⟩] concatenates_S8192x1024_S8x1024_S8200x1024_d0) : (⟨S8192x1024, .f32⟩ : BufTy).Contents (Elt F) → (⟨S8x1024, .f32⟩ : BufTy).Contents (Elt F) → (⟨S8200x1024, .f32⟩ : BufTy).Contents (Elt F)),
   StableHlo.reshape main_arg2 main_v3 (rfl : (.i32 : EltTy) = .i32) shapeCasts_S4x2048x2_S16384,
   StableHlo.reshape main_arg1 main_v4 (rfl : (.f32 : EltTy) = .f32) shapeCasts_S4x2048x2_S16384,
   StableHlo.reshape main_v2 main_v5 (rfl : (.f32 : EltTy) = .f32) shapeCasts_S8200x1024_S32800x2x128]
def postOps : List (HloOp τ sig (Elt F)) :=
  [StableHlo.reshape main_v6_0 main_v7 (rfl : (.f32 : EltTy) = .f32) shapeCasts_S131072x2x128_S4x16x512x1024,
   StableHlo.reshape main_v6_1 main_v8 (rfl : (.f32 : EltTy) = .f32) shapeCasts_S262144_S4x16x512x8,
   StableHlo.reshape main_v6_2 main_v9 (rfl : (.i32 : EltTy) = .i32) shapeCasts_S1024_S64x16,
   StableHlo.unary main_v9 main_v10 ((extractStridedSlice S64x1 ![0, 0] · slices_S64x16_S64x1_0_0) : (⟨S64x16, .i32⟩ : BufTy).Contents (Elt F) → (⟨S64x1, .i32⟩ : BufTy).Contents (Elt F)),
   StableHlo.reshape main_v10 main_v11 (rfl : (.i32 : EltTy) = .i32) shapeCasts_S64x1_S64,
   StableHlo.reshape main_v11 main_v12 (rfl : (.i32 : EltTy) = .i32) shapeCasts_S64_S4x16]

abbrev host (r : Ref sig .tc) : DevRef τ sig := Proc.devRef .tc r

theorem main_eq (d : Dev nD) : main (F := F) d = seq preOps >>= fun _ => (sc (F := F)).run d 0 >>= fun _ => seq postOps := by
  rw [StableHlo.seq_bind_seqK]
  rfl

theorem pre_bufs : (preOps (F := F)).Forall fun op => op.bufs ⊆ tcRefs τ sig :=
  ⟨StableHlo.reshape_bufs_sub .., StableHlo.nullary_bufs_sub .., StableHlo.unary_bufs_sub .., StableHlo.binary_bufs_sub .., StableHlo.reshape_bufs_sub ..,
    StableHlo.reshape_bufs_sub .., StableHlo.reshape_bufs_sub ..⟩
theorem post_bufs : (postOps (F := F)).Forall fun op => op.bufs ⊆ tcRefs τ sig :=
  ⟨StableHlo.reshape_bufs_sub .., StableHlo.reshape_bufs_sub .., StableHlo.reshape_bufs_sub .., StableHlo.unary_bufs_sub .., StableHlo.reshape_bufs_sub ..,
    StableHlo.reshape_bufs_sub ..⟩
theorem pre_fresh : (preOps (F := F)).Forall fun op => op.fresh = ∅ := StableHlo.forall_fresh_of_map rfl
theorem post_fresh : (postOps (F := F)).Forall fun op => op.fresh = ∅ := StableHlo.forall_fresh_of_map rfl

/-- The contents at the call, and what the call gets of them. -/
def atCall (d : Dev nD) : Valuation τ sig (Elt F) := after preOps (launchContents m d)
def callIdx (d : Dev nD) : S16384.Idx → BitVec 32 := atCall m d (host main_v3)
def callWgt (d : Dev nD) : S16384.Idx → F .f32 := atCall m d (host main_v4)
def callTbl (d : Dev nD) : S32800x2x128.Idx → F .f32 := atCall m d (host main_v5)
/-- The contents when the call is done, and at the end. -/
def callDone (d : Dev nD) : Valuation τ sig (Elt F) :=
  Function.update (Function.update (Function.update (atCall m d) (host main_v6_0) (dFin (callIdx m d) (callTbl m d))) (host main_v6_1) (mFin (callIdx m d) (callWgt m d)))
    (host main_v6_2) (cFin (callIdx m d))
def atEnd (d : Dev nD) : Valuation τ sig (Elt F) := after postOps (callDone m d)

/-- What the one call's handshakes carry in this run. -/
abbrev PM : (K (F := F)).Pay (nD := nD) (Val := Elt F) (Name := ℕ) (U := UU) :=
  P (callIdx m) (callWgt m) (callTbl m) (fun d => atCall m d (host main_v6_0)) (fun d => atCall m d (host main_v6_1)) (fun d => atCall m d (host main_v6_2))

theorem unscoped_held (d : Dev nD) : (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ by decide, bigSep_map]
  rfl

def S6 : Finset (DevRef τ sig) := {host main_v3, host main_v4, host main_v5, host main_v6_0, host main_v6_1, host main_v6_2}

theorem S6_sub : S6 ⊆ tcRefs τ sig := by
  intro b hb
  simp only [S6, Finset.mem_insert, Finset.mem_singleton] at hb
  rcases hb with h | h | h | h | h | h <;> exact h ▸ StableHlo.devRef_mem_tcRefs _

theorem held_S6 (d : Dev nD) (V : Valuation τ sig (Elt F)) : (held (T d) S6 V : sProp 𝕄)
    = callPts d (V (host main_v3)) (V (host main_v4)) (V (host main_v5)) (V (host main_v6_0)) (V (host main_v6_1)) (V (host main_v6_2)) := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem callDone_ne (d : Dev nD) {b : DevRef τ sig} (h0 : b ≠ host main_v6_0) (h1 : b ≠ host main_v6_1) (h2 : b ≠ host main_v6_2) : callDone m d b = atCall m d b := by
  unfold callDone
  rw [Function.update_of_ne h2, Function.update_of_ne h1, Function.update_of_ne h0]
theorem callDone_d (d : Dev nD) : callDone m d (host main_v6_0) = dFin (callIdx m d) (callTbl m d) := by
  unfold callDone
  rw [Function.update_of_ne (by decide), Function.update_of_ne (by decide), Function.update_self]
theorem callDone_m (d : Dev nD) : callDone m d (host main_v6_1) = mFin (callIdx m d) (callWgt m d) := by
  unfold callDone
  rw [Function.update_of_ne (by decide), Function.update_self]
theorem callDone_c (d : Dev nD) : callDone m d (host main_v6_2) = cFin (callIdx m d) := by
  unfold callDone
  rw [Function.update_self]

theorem held_call (d : Dev nD) : (held (T d) (tcRefs τ sig) (atCall m d) : sProp 𝕄)
    = iprop(callPts d (callIdx m d) (callWgt m d) (callTbl m d) (atCall m d (host main_v6_0)) (atCall m d (host main_v6_1)) (atCall m d (host main_v6_2))
        ∗ held (T d) (tcRefs τ sig \ S6) (atCall m d)) := by
  rw [StableHlo.held_sub_split _ S6_sub, held_S6]
  rfl
theorem held_done (d : Dev nD) : (held (T d) (tcRefs τ sig) (callDone m d) : sProp 𝕄)
    = iprop(callPts d (callIdx m d) (callWgt m d) (callTbl m d) (dFin (callIdx m d) (callTbl m d)) (mFin (callIdx m d) (callWgt m d)) (cFin (callIdx m d))
        ∗ held (T d) (tcRefs τ sig \ S6) (atCall m d)) := by
  rw [StableHlo.held_sub_split _ S6_sub, held_S6, callDone_d, callDone_m, callDone_c, callDone_ne m d (by decide) (by decide) (by decide),
    callDone_ne m d (by decide) (by decide) (by decide), callDone_ne m d (by decide) (by decide) (by decide)]
  rw [StableHlo.held_congr (S := tcRefs τ sig \ S6) (T d) (V := callDone m d) (V' := atCall m d) ?_]
  · rfl
  · intro b hb
    have hn := (Finset.mem_sdiff.mp hb).2
    simp only [S6, Finset.mem_insert, Finset.mem_singleton, not_or] at hn
    exact callDone_ne m d hn.2.2.2.1 hn.2.2.2.2.1 hn.2.2.2.2.2

abbrev FIN (d : Dev nD) : sProp 𝕄 := held (T d) (tcRefs τ sig) (atEnd m d)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) (fun _ => (sc (F := F)).run d 0 >>= fun _ => seq postOps) preOps (List.forall_iff_forall_mem.1 pre_bufs)
    (List.forall_iff_forall_mem.1 pre_fresh) (launchContents m d)) $$ [Hb Hheld]
  · isplitl [Hb]; · iexact Hb
    iexact Hheld
  iintro ⟨Hb, Hheld⟩
  ihave Hh := (Entails.of_eq ((show (held (d.tc : Thread nD τ) (tcRefs τ sig) (after preOps (launchContents m d)) : sProp 𝕄) = held (T d) (tcRefs τ sig) (atCall m d) from rfl).trans
    (held_call m d))) $$ Hheld
  icases Hh with ⟨Hcall, Hrest⟩
  rw [wp_bind]
  iapply ((K (F := F)).wp_run (D (F := F)) 𝒱 (EH := EH) (P := PM m) κ d 0) $$ [Hst Hcall Hb Hrest Hts]
  isplitr; · iexact Hctx
  isplitl [Hst]; · iexact Hst
  isplitl [Hcall]
  · rw [st0_eq]
    iexact Hcall
  iintro ⟨Hst, Hdn⟩
  ihave Hcall := (Entails.of_eq (dn0_eq (callIdx m) (callWgt m) (callTbl m) _ _ _ d)) $$ Hdn
  rw [← bind_pure (seq postOps)]
  iapply (wp_seq 𝒱 none Set.univ d (tcRefs τ sig) (fun u => pure u) postOps (List.forall_iff_forall_mem.1 post_bufs)
    (List.forall_iff_forall_mem.1 post_fresh) (callDone m d)) $$ [Hb Hcall Hrest]
  · isplitl [Hb]; · iexact Hb
    iapply (Entails.of_eq (held_done m d).symm)
    isplitl [Hcall]; · iexact Hcall
    iexact Hrest
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b : Ref sig .tc, s'.mem.mem ((SparseCore.T d).loc b) = atEnd m d (host b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

def QC : PUnit × MemSt nD τ sig (Elt F) → Prop := fun r => (∀ d : Dev nD, ∀ b : Ref sig .tc, r.2.mem ((SparseCore.T d).loc b) = atEnd m d (host b)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ _ facts)
    (fun q _ => match q with | 0 => SparseCore.Cfg.VecSplit.of_plain (vecSplit _ _ _ _ _ _))
    m ρ main (fun _ => iprop(emp)) (FIN m) (u₀ (F := F)) (sep_elim_left.trans (hu₀ _ _ _ _ _ _)) (hmain m ρ) (fq m) (hfin m) (QC m) (fun _ h hz => ⟨h, hz⟩)

end Main

end Cert.Proof.Dispatch

end
-- ==== Proof.Returned.lean ====
/-
  The kernel's three results at an index, through the host's reshapes around the call.
-/
module

public import proofs.«01_k».proof.Proof.Launch
public import Idealize.ShloMosaic.Lib.Pipeline.Value
public import Idealize.ShloMosaic.Lib.ValueIdx

@[expose] public section

noncomputable section

namespace Cert.Proof.Dispatch

open Cert.KernelIdeal Cert.KernelIdeal.Gen

open Idealize.ShloMosaic Idealize.ShloMosaic.ValueIdx
open Idealize.ShloMosaic.StableHlo (after launchContents)

variable {F : FTy → Type} [FloatOps F]

/-- The gather's table: the tokens' rows and eight zero rows, in quarter rows. -/
def tableOf (x : FVec F S4x2048x1024 .f32) : FVec F S32800x2x128 .f32 :=
  shapeCast _ (concatenate S8200x1024 0 [⟨S8192x1024, shapeCast _ x shapeCasts_S4x2048x1024_S8192x1024⟩,
    ⟨S8x1024, broadcastInDim S8x1024 ![] bcast_S_S8x1024 (constant S_ .f32 0x00000000#32)⟩] concatenates_S8192x1024_S8x1024_S8200x1024_d0) shapeCasts_S8200x1024_S32800x2x128

/-- Quarter `q` of row `t` of the table holds words `256 q …` of token `t`, or zeros. -/
theorem tableOf_at (x : FVec F S4x2048x1024 .f32) (t : ℕ) (ht : t < 8200) (h : Fin 1024) :
    tableOf x (tix (4 * t + h.val / 256) ⟨h.val % 256 / 128, by omega⟩ ⟨h.val % 128, by omega⟩)
      = if ht' : t < 8192 then x (ix3 (⟨t / 2048, by omega⟩ : Fin 4) (⟨t % 2048, by omega⟩ : Fin 2048) h) else Scalar.ofBits .f32 0x00000000#32 := by
  have hh := h.isLt
  unfold tableOf
  rw [shapeCast_apply _ _ (tix (4 * t + h.val / 256) ⟨h.val % 256 / 128, by omega⟩ ⟨h.val % 128, by omega⟩) (ix2 (⟨t, ht⟩ : Fin 8200) h) (by
    rw [Shape.rowMajor_val_two, Shape.rowMajor_val_three]
    show t * 1024 + h.val = ((4 * t + h.val / 256) % 32800 * 2 + h.val % 256 / 128) * 128 + h.val % 128
    omega)]
  split
  · next ht' =>
    refine (concatenate_pair_apply_left (t := S8200x1024) (s₁ := S8192x1024) 0 _ _ _ (ix2 (⟨t, ht⟩ : Fin 8200) h) rfl (ix2 (⟨t, ht'⟩ : Fin 8192) h)
      (fun b => by fin_cases b <;> rfl)).trans ?_
    exact shapeCast_apply _ _ _ _ (by
      rw [Shape.rowMajor_val_two, Shape.rowMajor_val_three]
      show (t / 2048 * 2048 + t % 2048) * 1024 + h.val = t * 1024 + h.val
      omega)
  · next ht' =>
    refine (concatenate_pair_apply_right (t := S8200x1024) (s₁ := S8192x1024) (s₂ := S8x1024) 0 _ _ _ (ix2 (⟨t, ht⟩ : Fin 8200) h) rfl rfl
      (ix2 (⟨t - 8192, by omega⟩ : Fin 8) h) (fun b hb => by
        fin_cases b
        · exact absurd rfl hb
        · rfl) (show t - 8192 + 8192 = t by omega)).trans ?_
    rfl

section AtEnd

variable (m : (ℓ : Loc nD τ sig) → Buf (Elt F) ℓ) (d : Dev nD)

theorem callIdx_eq : callIdx m d = shapeCast S16384 (m ((SparseCore.T d).loc main_arg2)) shapeCasts_S4x2048x2_S16384 := rfl
theorem callWgt_eq : callWgt m d = shapeCast S16384 (m ((SparseCore.T d).loc main_arg1)) shapeCasts_S4x2048x2_S16384 := rfl
theorem callTbl_eq : callTbl m d = tableOf (m ((SparseCore.T d).loc main_arg0)) := rfl

theorem post_7 (v : Valuation τ sig (Elt F)) : after postOps v (host main_v7) = shapeCast S4x16x512x1024 (v (host main_v6_0)) shapeCasts_S131072x2x128_S4x16x512x1024 := by rfl
theorem post_8 (v : Valuation τ sig (Elt F)) : after postOps v (host main_v8) = shapeCast S4x16x512x8 (v (host main_v6_1)) shapeCasts_S262144_S4x16x512x8 := by rfl
theorem post_9 (v : Valuation τ sig (Elt F)) : after postOps v (host main_v9) = shapeCast S64x16 (v (host main_v6_2)) shapeCasts_S1024_S64x16 := by rfl
theorem post_10 (v : Valuation τ sig (Elt F)) : after postOps v (host main_v10) = extractStridedSlice S64x1 ![0, 0] (after postOps v (host main_v9)) slices_S64x16_S64x1_0_0 := by rfl
theorem post_11 (v : Valuation τ sig (Elt F)) : after postOps v (host main_v11) = shapeCast S64 (after postOps v (host main_v10)) shapeCasts_S64x1_S64 := by rfl
theorem post_12 (v : Valuation τ sig (Elt F)) : after postOps v (host main_v12) = shapeCast S4x16 (after postOps v (host main_v11)) shapeCasts_S64_S4x16 := by rfl

end AtEnd

variable (A : S16384.Idx → BitVec 32) (c : Fin 4) (l : Fin 16) (i : Fin 512)

theorem rows_at (xt : FVec F S32800x2x128 .f32) (h : Fin 1024) :
    shapeCast S4x16x512x1024 (dFin A xt) shapeCasts_S131072x2x128_S4x16x512x1024 (ix4 c l i h)
      = xt (tix (4 * (slotOf A (eOf (16 * c.val + l.val)) i.val / 2) + h.val / 256) ⟨h.val % 256 / 128, by omega⟩ ⟨h.val % 128, by omega⟩) := by
  have hc := c.isLt
  have hl := l.isLt
  have hi := i.isLt
  have hh := h.isLt
  rw [shapeCast_apply _ _ (ix4 c l i h) (ix3 (⟨2048 * (16 * c.val + l.val) + 4 * i.val + h.val / 256, by omega⟩ : Fin 131072)
    (⟨h.val % 256 / 128, by omega⟩ : Fin 2) (⟨h.val % 128, by omega⟩ : Fin 128)) (by
    rw [Shape.rowMajor_val_four, Shape.rowMajor_val_three]
    show ((2048 * (16 * c.val + l.val) + 4 * i.val + h.val / 256) * 2 + h.val % 256 / 128) * 128 + h.val % 128
      = ((c.val * 16 + l.val) * 512 + i.val) * 1024 + h.val
    omega)]
  have e1 : (2048 * (16 * c.val + l.val) + 4 * i.val + h.val / 256) / 2048 = 16 * c.val + l.val := by omega
  have e2 : (2048 * (16 * c.val + l.val) + 4 * i.val + h.val / 256) % 2048 = 4 * i.val + h.val / 256 := by omega
  have e3 : (4 * i.val + h.val / 256) / 4 = i.val := by omega
  have e4 : (4 * i.val + h.val / 256) % 4 = h.val / 256 := by omega
  show xt (tix (4 * (slotOf A (eOf ((2048 * (16 * c.val + l.val) + 4 * i.val + h.val / 256) / 2048))
      ((2048 * (16 * c.val + l.val) + 4 * i.val + h.val / 256) % 2048 / 4) / 2)
    + (2048 * (16 * c.val + l.val) + 4 * i.val + h.val / 256) % 2048 % 4) _ _) = _
  rw [e1, e2, e3, e4]

theorem meta_at (w : FVec F S16384 .f32) (k : Fin 8) :
    shapeCast S4x16x512x8 (mFin A w) shapeCasts_S262144_S4x16x512x8 (ix4 c l i k)
      = if i.val < cnt A (eOf (16 * c.val + l.val)) 16384
        then metaVal (BitVec.ofNat 32 (slotOf A (eOf (16 * c.val + l.val)) i.val)) (eOf (16 * c.val + l.val)) (wAt w (slotOf A (eOf (16 * c.val + l.val)) i.val)) k.val
        else unfilled := by
  have hc := c.isLt
  have hl := l.isLt
  have hi := i.isLt
  have hk := k.isLt
  rw [shapeCast_apply _ _ (ix4 c l i k) (ix1 (⟨4096 * (16 * c.val + l.val) + 8 * i.val + k.val, by omega⟩ : Fin 262144)) (by
    rw [Shape.rowMajor_val_four, Shape.rowMajor_val_one]
    show 4096 * (16 * c.val + l.val) + 8 * i.val + k.val = ((c.val * 16 + l.val) * 512 + i.val) * 8 + k.val
    omega)]
  have e1 : (4096 * (16 * c.val + l.val) + 8 * i.val + k.val) / 4096 = 16 * c.val + l.val := by omega
  have e2 : (4096 * (16 * c.val + l.val) + 8 * i.val + k.val) % 4096 / 8 = i.val := by omega
  have e3 : (4096 * (16 * c.val + l.val) + 8 * i.val + k.val) % 8 = k.val := by omega
  refine if_congr ?_ ?_ rfl
  · show (4096 * (16 * c.val + l.val) + 8 * i.val + k.val) % 4096 / 8
      < min (cnt A (eOf ((4096 * (16 * c.val + l.val) + 8 * i.val + k.val) / 4096)) 16384) 512 ↔ _
    rw [e1, e2]
    omega
  · show metaVal (BitVec.ofNat 32 (slotOf A (eOf ((4096 * (16 * c.val + l.val) + 8 * i.val + k.val) / 4096)) ((4096 * (16 * c.val + l.val) + 8 * i.val + k.val) % 4096 / 8)))
      (eOf ((4096 * (16 * c.val + l.val) + 8 * i.val + k.val) / 4096))
      (wAt w (slotOf A (eOf ((4096 * (16 * c.val + l.val) + 8 * i.val + k.val) / 4096)) ((4096 * (16 * c.val + l.val) + 8 * i.val + k.val) % 4096 / 8)))
      ((4096 * (16 * c.val + l.val) + 8 * i.val + k.val) % 8) = _
    rw [e1, e2, e3]

theorem totals_at :
    shapeCast S4x16 (shapeCast S64 (extractStridedSlice S64x1 ![0, 0] (shapeCast S64x16 (cFin A) shapeCasts_S1024_S64x16) slices_S64x16_S64x1_0_0)
      shapeCasts_S64x1_S64) shapeCasts_S64_S4x16 (ix2 c l) = BitVec.ofNat 32 (cnt A (eOf (16 * c.val + l.val)) 16384) := by
  have hc := c.isLt
  have hl := l.isLt
  have he : 16 * c.val + l.val < 64 := by omega
  rw [shapeCast_apply _ _ (ix2 c l) (ix1 (⟨16 * c.val + l.val, he⟩ : Fin 64)) (by
      rw [Shape.rowMajor_val_two, Shape.rowMajor_val_one]
      show 16 * c.val + l.val = c.val * 16 + l.val
      omega),
    shapeCast_apply _ _ (ix1 (⟨16 * c.val + l.val, he⟩ : Fin 64)) (ix2 (⟨16 * c.val + l.val, he⟩ : Fin 64) (0 : Fin 1)) (by
      rw [Shape.rowMajor_val_two, Shape.rowMajor_val_one]
      show (16 * c.val + l.val) * 1 + 0 = 16 * c.val + l.val
      omega)]
  refine (shapeCast_apply (cFin A) _ _ (ix1 (⟨16 * (16 * c.val + l.val), by omega⟩ : Fin 1024)) (by
    rw [Shape.rowMajor_val_two, Shape.rowMajor_val_one]
    show 16 * (16 * c.val + l.val) = (0 + (16 * c.val + l.val)) * 16 + (0 + 0)
    omega)).trans ?_
  show BitVec.ofNat 32 (cnt A (eOf (16 * (16 * c.val + l.val) / 16)) 16384) = _
  rw [Nat.mul_div_cancel_left _ (by decide)]

end Cert.Proof.Dispatch

end
-- ==== Proof.Frames.lean ====
/-
  The two programs' frames, from the one run: the argument arrays are no operation's results, so they end as they began.
-/
module

public import proofs.«01_k».proof.Proof.Launch
public import proofs.«01_k».proof.Proof.Gen.Kernel

@[expose] public section

noncomputable section

namespace Cert.Proof.Dispatch

open Cert.KernelIdeal Cert.KernelIdeal.Gen

open Idealize.ShloMosaic Idealize.SL.Sem
open Idealize.ShloMosaic.StableHlo (after launchContents)

variable {F : FTy → Type} [FloatOps F] (m : (ℓ : Loc nD τ sig) → Buf (Elt F) ℓ)

/-- The buffers @main's operations write. -/
def written : List (Ref sig .tc) :=
  [main_v0, main_cst, main_v1, main_v2, main_v3, main_v4, main_v5, main_v6_0, main_v6_1, main_v6_2, main_v7, main_v8, main_v9, main_v10, main_v11, main_v12]

theorem atCall_kept (d : Dev nD) {r : Ref sig .tc} (h : r ∉ written) : atCall m d (host r) = m ((SparseCore.T d).loc r) :=
  StableHlo.after_of_writes_sub (W := [main_v0, main_cst, main_v1, main_v2, main_v3, main_v4, main_v5]) preOps _
    (StableHlo.forall_writes_sub_of_map rfl) (fun hm => h (by simp only [written, List.mem_cons, List.not_mem_nil, or_false] at hm ⊢; tauto))

theorem atEnd_kept (d : Dev nD) {r : Ref sig .tc} (h : r ∉ written) : atEnd m d (host r) = m ((SparseCore.T d).loc r) := by
  refine (StableHlo.after_of_writes_sub (W := [main_v7, main_v8, main_v9, main_v10, main_v11, main_v12]) postOps _
    (StableHlo.forall_writes_sub_of_map rfl) (fun hm => h (by simp only [written, List.mem_cons, List.not_mem_nil, or_false] at hm ⊢; tauto))).trans ?_
  have hne : ∀ {b : Ref sig .tc}, b ∈ written → host r ≠ host b := fun hb e => h (Proc.devRef_injective _ e ▸ hb)
  exact (callDone_ne m d (hne (by decide)) (hne (by decide)) (hne (by decide))).trans (atCall_kept m d h)

theorem kept {r : PUnit × MemSt nD τ sig (Elt F)} (h : QC m r) (c : Dev nD) {b : Ref sig .tc} (hb : b ∉ written) :
    r.2.mem ((SparseCore.T c).loc b) = m ((SparseCore.T c).loc b) := (h.1 c b).trans (atEnd_kept m c hb)

theorem frame_kernelIdeal : Cert.quiescent_KernelIdeal := fun m ρ _ =>
  (θ_run Cert.KernelIdeal.defs _ _).mono
    (fun _ h => ⟨fun c => ⟨kept m h c (b := main_arg0) (by decide), kept m h c (b := main_arg1) (by decide), kept m h c (b := main_arg2) (by decide)⟩, h.2⟩) (run_main (F := Ideal) m ρ)

theorem frame_kernel : Cert.quiescent_Kernel := fun m ρ _ =>
  (θ_run Cert.KernelIdeal.defs _ _).mono
    (fun _ h => ⟨fun c => ⟨kept (F := Bits) m h c (b := main_arg0) (by decide), kept (F := Bits) m h c (b := main_arg1) (by decide), kept (F := Bits) m h c (b := main_arg2) (by decide)⟩, h.2⟩)
    (run_main (F := Bits) m ρ)

end Cert.Proof.Dispatch

end
-- ==== Proof.Equal.lean ====
/-
  The kernel's results are the reference's, and the two runs side by side, over any carrier of the floats.
-/
module

public import proofs.«01_k».proof.Proof.Results
public import proofs.«01_k».proof.Proof.Returned
public import proofs.«01_k».proof.Proof.Frames
public import proofs.«01_k».proof.Proof.Gen.Pre_experts

@[expose] public section

noncomputable section

namespace Cert.Proof.Plain

open Cert.ReferenceIdeal Cert.ReferenceIdeal.Gen
open Cert.Proof.Dispatch (elemAt Hit cnt eOf slotOf slotOf_lt slotOf_of_le wAt dFin mFin cFin tableOf tableOf_at)
open Idealize.ShloMosaic Idealize.ShloMosaic.TcCoe Idealize.SL.Sem Idealize.ShloMosaic.ValueIdx

variable {F : FTy → Type} [FloatOps F]

/-- An array of assignments in one row. -/
abbrev lined {α : Type} (x : S4x2048x2.Idx → α) : Cert.KernelIdeal.S16384.Idx → α :=
  shapeCast Cert.KernelIdeal.S16384 x Cert.KernelIdeal.Facts₀.shapeCasts_S4x2048x2_S16384

theorem lined_at {α : Type} (x : S4x2048x2.Idx → α) (p : ℕ) (hp : p < 16384) :
    lined x (Shape.ofLane (d := ![16384]) ⟨p, hp⟩) = x (ix3 (⟨p / 4096, by omega⟩ : Fin 4) (⟨p % 4096 / 2, by omega⟩ : Fin 2048) (⟨p % 2, by omega⟩ : Fin 2)) := by
  refine shapeCast_apply _ _ _ _ ?_
  rw [Shape.rowMajor_val_three, Shape.rowMajor_val_one]
  show (p / 4096 * 2048 + p % 4096 / 2) * 2 + p % 2 = p
  omega

theorem chips_at {α : Type} (x : S4x2048x2.Idx → α) (c : Fin 4) (n : Fin 4096) (p : ℕ) (hp : p < 16384) (h : p = 4096 * c.val + n.val) :
    shapeCast S4x4096 x shapeCasts_S4x2048x2_S4x4096 (ix2 c n) = lined x (Shape.ofLane (d := ![16384]) ⟨p, hp⟩) := by
  have hc := c.isLt
  have hn := n.isLt
  refine Eq.trans ?_ (lined_at x p hp).symm
  refine shapeCast_apply _ _ _ _ ?_
  rw [Shape.rowMajor_val_three, Shape.rowMajor_val_two]
  show (p / 4096 * 2048 + p % 4096 / 2) * 2 + p % 2 = c.val * 4096 + n.val
  omega

theorem flat_lined (a : IVec S4x2048x2 32) : FlatIs a (lined a) := fun c n => by
  have hp : 4096 * c.val + n.val < 16384 := by omega
  exact (chips_at a c n _ hp rfl).trans (show elemAt (lined a) (4096 * c.val + n.val) = _ from dif_pos hp).symm

theorem weights_lined (w : FVec F S4x2048x2 .f32) (c : Fin 4) (n : Fin 4096) :
    shapeCast S4x4096 w shapeCasts_S4x2048x2_S4x4096 (ix2 c n) = wAt (lined w) (4096 * c.val + n.val) :=
  chips_at w c n _ (Nat.mod_lt _ (by decide)) (by omega)

/-- The precondition read at an assignment. -/
theorem expert_lt {a : IVec S4x2048x2 32} {x : FVec F S4x2048x1024 .f32} {w : FVec F S4x2048x2 .f32}
    (h : Cert.Pre_experts.fn (F := F) x w a = fun _ => 1#1) (p : ℕ) (hp : p < 16384) : (elemAt (lined a) p).toNat < 64 := by
  have e : elemAt (lined a) p = a (ix3 (⟨p / 4096, by omega⟩ : Fin 4) (⟨p % 4096 / 2, by omega⟩ : Fin 2048) (⟨p % 2, by omega⟩ : Fin 2)) :=
    (dif_pos hp).trans (lined_at a p hp)
  have key : ∀ i : S4x2048x2.Idx, (a i).toNat < 64 := fun i => by
    have h1 : IntOp.andi (IntOp.cmpi .sge (a i) 0#32) (IntOp.cmpi .slt (a i) 64#32) = 1#1 := congrFun h i
    rw [IntOp.andi_eq_one, IntOp.cmpi_sge, IntOp.cmpi_slt] at h1
    obtain ⟨h2, h3⟩ := h1
    rw [show (0#32).toInt = 0 from rfl, BitVec.toInt_eq_toNat_cond] at h2
    rw [show (64#32).toInt = 64 from rfl, BitVec.toInt_eq_toNat_cond] at h3
    split at h2 <;> split at h3 <;> omega
  rw [e]
  exact key _

section Equal

variable {a : IVec S4x2048x2 32} (hlt : ∀ p, p < 16384 → (elemAt (lined a) p).toNat < 64)

theorem totals_equal : totalOut a = shapeCast Cert.KernelIdeal.S4x16 (shapeCast Cert.KernelIdeal.S64 (extractStridedSlice Cert.KernelIdeal.S64x1 ![0, 0]
    (shapeCast Cert.KernelIdeal.S64x16 (cFin (lined a)) Cert.KernelIdeal.Facts₀.shapeCasts_S1024_S64x16) Cert.KernelIdeal.Facts₀.slices_S64x16_S64x1_0_0)
    Cert.KernelIdeal.Facts₀.shapeCasts_S64x1_S64) Cert.KernelIdeal.Facts₀.shapeCasts_S64_S4x16 := by
  funext j
  obtain ⟨c, l, rfl⟩ : ∃ (c : Fin 4) (l : Fin 16), j = ix2 c l := ⟨_, _, eq_ix2 j⟩
  exact (totalOut_at (flat_lined a) c l).trans (Dispatch.totals_at (lined a) c l).symm

include hlt

theorem rows_equal (x : FVec F S4x2048x1024 .f32) :
    rowsOut a x = shapeCast Cert.KernelIdeal.S4x16x512x1024 (dFin (lined a) (tableOf x)) Cert.KernelIdeal.Facts₀.shapeCasts_S131072x2x128_S4x16x512x1024 := by
  funext j
  obtain ⟨c, l, i, h, rfl⟩ : ∃ (c : Fin 4) (l : Fin 16) (i : Fin 512) (h : Fin 1024), j = ix4 c l i h := ⟨_, _, _, _, eq_ix4 j⟩
  refine (rowsOut_at (flat_lined a) hlt c l i x h).trans (Eq.trans ?_ (Dispatch.rows_at (lined a) c l i (tableOf x) h).symm)
  by_cases hf : i.val < cnt (lined a) (eOf (16 * c.val + l.val)) 16384
  · have hs := slotOf_lt (lined a) _ hf
    rw [if_pos hf, tableOf_at x _ (by omega) h, dif_pos (by omega)]
    unfold xAt
    refine congrArg x (congrArg₂ (fun u v => ix3 u v h) (Fin.ext ?_) (Fin.ext ?_))
    · show slotOf (lined a) (eOf (16 * c.val + l.val)) i.val / 4096 % 4 = slotOf (lined a) (eOf (16 * c.val + l.val)) i.val / 2 / 2048
      omega
    · show slotOf (lined a) (eOf (16 * c.val + l.val)) i.val % 4096 / 2 = slotOf (lined a) (eOf (16 * c.val + l.val)) i.val / 2 % 2048
      omega
  · have hs := slotOf_of_le (lined a) (eOf (16 * c.val + l.val)) (i := i.val) (by omega)
    rw [if_neg hf, hs, tableOf_at x _ (by decide) h, dif_neg (by decide)]

theorem meta_equal (w : FVec F S4x2048x2 .f32) :
    metaOut a w = shapeCast Cert.KernelIdeal.S4x16x512x8 (mFin (lined a) (lined w)) Cert.KernelIdeal.Facts₀.shapeCasts_S262144_S4x16x512x8 := by
  funext j
  obtain ⟨c, l, i, k, rfl⟩ : ∃ (c : Fin 4) (l : Fin 16) (i : Fin 512) (k : Fin 8), j = ix4 c l i k := ⟨_, _, _, _, eq_ix4 j⟩
  exact (metaOut_at (flat_lined a) hlt c l i (weights_lined w) k).trans (Dispatch.meta_at (lined a) c l i (lined w) k).symm

end Equal

end Cert.Proof.Plain

namespace Cert.Proof

open Idealize.ShloMosaic Idealize.ShloMosaic.TcCoe Idealize.SL.Sem
open Cert.Proof.Dispatch

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)

/-- The two programs are started on the same arguments. -/
def SameArgs : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- Every assignment is an expert's number. -/
def Experts : Prop := ∀ c : Dev Cert.KernelIdeal.nD,
  Cert.Pre_experts.fn (F := F) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) = fun _ => 1#1

variable {m m'} (hs : SameArgs m m') (hp : Experts m) (c : Dev Cert.KernelIdeal.nD)
include hs

theorem end_totals : Plain.totalOut (m' ((c.tc : Thread Cert.ReferenceIdeal.nD Cert.ReferenceIdeal.τ).loc Cert.ReferenceIdeal.main_arg2))
    = atEnd m c (Proc.devRef (.tc : Proc Cert.KernelIdeal.τ) Cert.KernelIdeal.main_v12) := by
  rw [(hs c).2.2, Plain.totals_equal]
  refine Eq.symm ((post_12 _).trans ?_)
  rw [post_11, post_10, post_9, callDone_c, callIdx_eq]

include hp

theorem end_rows : Plain.rowsOut (F := F) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg0))
    = atEnd m c (Proc.devRef (.tc : Proc Cert.KernelIdeal.τ) Cert.KernelIdeal.main_v7) := by
  rw [(hs c).2.2, (hs c).1, Plain.rows_equal (Plain.expert_lt (hp c))]
  refine Eq.symm ((post_7 _).trans ?_)
  rw [callDone_d, callIdx_eq, callTbl_eq]

theorem end_meta : Plain.metaOut (F := F) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg1))
    = atEnd m c (Proc.devRef (.tc : Proc Cert.KernelIdeal.τ) Cert.KernelIdeal.main_v8) := by
  rw [(hs c).2.2, (hs c).2.1, Plain.meta_equal (Plain.expert_lt (hp c))]
  refine Eq.symm ((post_8 _).trans ?_)
  rw [callDone_m, callIdx_eq, callWgt_eq]

/-- The kernel's run and the plain program's, with the same three results. -/
theorem runs_agree [∀ e, Nonempty (Elt F e)] (g : Dev Cert.KernelIdeal.nD → PrngReg) (g' : Dev Cert.ReferenceIdeal.nD → PrngReg) :
    ∃ (v0 : (c : Dev Cert.KernelIdeal.nD) → Buf (Elt F) ((c.tc : Thread Cert.KernelIdeal.nD Cert.KernelIdeal.τ).loc Cert.KernelIdeal.main_v7)) (v1 : (c : Dev Cert.KernelIdeal.nD) → Buf (Elt F) ((c.tc : Thread Cert.KernelIdeal.nD Cert.KernelIdeal.τ).loc Cert.KernelIdeal.main_v8)) (v2 : (c : Dev Cert.KernelIdeal.nD) → Buf (Elt F) ((c.tc : Thread Cert.KernelIdeal.nD Cert.KernelIdeal.τ).loc Cert.KernelIdeal.main_v12)),
      θ_run (Cert.KernelIdeal.defs (F := F)) (Cert.KernelIdeal.threads (F := F)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  ⟨fun c => atEnd m c (Proc.devRef (.tc : Proc Cert.KernelIdeal.τ) Cert.KernelIdeal.main_v7),
    fun c => atEnd m c (Proc.devRef (.tc : Proc Cert.KernelIdeal.τ) Cert.KernelIdeal.main_v8),
    fun c => atEnd m c (Proc.devRef (.tc : Proc Cert.KernelIdeal.τ) Cert.KernelIdeal.main_v12),
    (θ_run Cert.KernelIdeal.defs _ _).mono
      (fun _ h c => ⟨h.1 c _, h.1 c _, h.1 c _, kept m h c (b := Cert.KernelIdeal.main_arg0) (by decide),
        kept m h c (b := Cert.KernelIdeal.main_arg1) (by decide), kept m h c (b := Cert.KernelIdeal.main_arg2) (by decide)⟩) (run_main m g),
    (θ_run Cert.ReferenceIdeal.defs _ _).mono
      (fun _ h c => ⟨(h c).1.trans ((Plain.rows_eq m' c).trans (end_rows hs hp c)), (h c).2.1.trans ((Plain.meta_eq m' c).trans (end_meta hs hp c)),
        (h c).2.2.1.trans (end_totals hs c), (h c).2.2.2⟩) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_experts
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference declares no semaphore, and none of its operations writes an argument. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem frame_reference : Cert.quiescent_Reference := fun m ρ _ =>
  (θ_run Cert.ReferenceIdeal.defs _ _).mono
    (fun r h => ⟨fun c => (h c).2.2.2, sem_eq_zero_of_no_sems (by decide) r.2⟩)
    (Cert.ReferenceIdeal.Value.run (F := Bits) m ρ)

theorem claim : Cert.Claim :=
  ⟨Cert.Kernel.Gen.facts, Cert.KernelIdeal.Gen.facts, Cert.ReferenceIdeal.Gen.facts, Cert.Reference.Gen.facts, Cert.Pre_experts.Gen.facts,
    Dispatch.frame_kernel, fun m ρ _ => Dispatch.frame_kernel m ρ trivial,
    Dispatch.frame_kernelIdeal, fun m ρ _ => Dispatch.frame_kernelIdeal m ρ trivial,
    frame_referenceIdeal, fun m ρ _ => frame_referenceIdeal m ρ trivial,
    frame_reference, trivial,
    fun _ g _ g' hp hs => runs_agree (F := Ideal) hs hp g g',
    fun _ g _ g' hp hs => runs_agree (F := Bits) hs hp g g'⟩

end Cert.Proof

end
